-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![8, 4, 64, 1024]⟩ ⟨4, ![32, 4, 64, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S4x8x4x64x32x128 : Shape := ⟨6, ![4, 8, 4, 64, 32, 128]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x8x4x64x32x128 : S_.BroadcastsInDim S4x8x4x64x32x128 (![] : Fin 0 → Fin S4x8x4x64x32x128.rank)
  reducesTo_S4x8x4x64x32x128_S_d0_1_2_3_4_5 : S4x8x4x64x32x128.ReducesTo [0, 1, 2, 3, 4, 5] S_

variable [Facts]

def fn {F : FTy → Type} [FloatOps F] (main_arg0 : FVec F S2048x1024 .bf16) (main_arg1 : FVec F S1024x1024 .bf16) (main_arg2 : FVec F S4x8x4x64x32x128 .f32) (main_arg3 : FVec F S4x8x4x64x32x128 .f32) (main_arg4 : FVec F S1024x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S4x8x4x64x32x128 .f32 := Host.absf main_arg2
  let main_cst_2 : FVec F S_ .f32 := constant S_ .f32 0x7F800000#32
  let main_v12 : FVec F S4x8x4x64x32x128 .f32 := broadcastInDim S4x8x4x64x32x128 ![] bcast_S_S4x8x4x64x32x128 main_cst_2
  let main_v13 : IVec S4x8x4x64x32x128 1 := cmpf .olt main_v11 main_v12
  let main_c_3 : IVec S_ 1 := constantI S_ 1 1#1
  let main_v14 : IVec S_ 1 := (fun x v => Host.reduce IntOp.andi x v reducesTo_S4x8x4x64x32x128_S_d0_1_2_3_4_5 h_S_) main_v13 main_c_3
  let main_v15 : IVec S_ 1 := andi main_v10 main_v14
  main_v15
-- ==== Pre_finite_ReferenceIdeal.lean ====
abbrev S8192x1024 : Shape := ⟨2, ![8192, 1024]⟩
abbrev S1024x4096 : Shape := ⟨2, ![1024, 4096]⟩
abbrev S4x8x4x64x32x128 : Shape := ⟨6, ![4, 8, 4, 64, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x8x4x64x32x128 : S_.BroadcastsInDim S4x8x4x64x32x128 (![] : Fin 0 → Fin S4x8x4x64x32x128.rank)
  reducesTo_S4x8x4x64x32x128_S_d0_1_2_3_4_5 : S4x8x4x64x32x128.ReducesTo [0, 1, 2, 3, 4, 5] S_

variable [Facts]

def fn {F : FTy → Type} [FloatOps F] (main_arg0 : FVec F S8192x1024 .bf16) (main_arg1 : FVec F S1024x4096 .bf16) (main_arg2 : FVec F S4x8x4x64x32x128 .f32) (main_arg3 : FVec F S4x8x4x64x32x128 .f32) (main_arg4 : FVec F S4096x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S4x8x4x64x32x128 .f32 := Host.absf main_arg2
  let main_cst_2 : FVec F S_ .f32 := constant S_ .f32 0x7F800000#32
  let main_v12 : FVec F S4x8x4x64x32x128 .f32 := broadcastInDim S4x8x4x64x32x128 ![] bcast_S_S4x8x4x64x32x128 main_cst_2
  let main_v13 : IVec S4x8x4x64x32x128 1 := cmpf .olt main_v11 main_v12
  let main_c_3 : IVec S_ 1 := constantI S_ 1 1#1
  let main_v14 : IVec S_ 1 := (fun x v => Host.reduce IntOp.andi x v reducesTo_S4x8x4x64x32x128_S_d0_1_2_3_4_5 h_S_) main_v13 main_c_3
  let main_v15 : IVec S_ 1 := andi main_v10 main_v14
  main_v15
-- ==== Kernel.lean ====
abbrev S2048x1024 : Shape := ⟨2, ![2048, 1024]⟩
abbrev S1024x1024 : Shape := ⟨2, ![1024, 1024]⟩
abbrev S4x8x4x64x32x128 : Shape := ⟨6, ![4, 8, 4, 64, 32, 128]⟩
abbrev S8x4x64x1024 : Shape := ⟨4, ![8, 4, 64, 1024]⟩
abbrev S4x1024x1024 : Shape := ⟨3, ![4, 1024, 1024]⟩
abbrev S2x8x64x8x128 : Shape := ⟨5, ![2, 8, 64, 8, 128]⟩
abbrev S512x1024 : Shape := ⟨2, ![512, 1024]⟩
abbrev S4x512x1024 : Shape := ⟨3, ![4, 512, 1024]⟩
abbrev S3 : Shape := ⟨1, ![3]⟩
abbrev S2 : Shape := ⟨1, ![2]⟩
abbrev S1x1024x1024 : Shape := ⟨3, ![1, 1024, 1024]⟩
abbrev S_ : Shape := ⟨0, ![]⟩
abbrev S1 : Shape := ⟨1, ![1]⟩
abbrev S1x8x64x8x128 : Shape := ⟨5, ![1, 8, 64, 8, 128]⟩
abbrev S8x64x8x128 : Shape := ⟨4, ![8, 64, 8, 128]⟩
abbrev S1x8x1x64x8x128 : Shape := ⟨6, ![1, 8, 1, 64, 8, 128]⟩
abbrev S8x1x64x1024 : Shape := ⟨4, ![8, 1, 64, 1024]⟩
abbrev S8x64x1024 : Shape := ⟨3, ![8, 64, 1024]⟩
abbrev S512x128 : Shape := ⟨2, ![512, 128]⟩
abbrev S8x64x1x128 : Shape := ⟨4, ![8, 64, 1, 128]⟩
abbrev S8x64x128 : Shape := ⟨3, ![8, 64, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x512x1024 : Shape := ⟨3, ![1, 512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S4x8x4x64x32x128, .f32⟩
  | .hbm, ⟨3, _⟩ => ⟨S4x8x4x64x32x128, .f32⟩
  | .hbm, ⟨4, _⟩ => ⟨S1024x1024, .bf16⟩
  | .hbm, ⟨5, _⟩ => ⟨S8x4x64x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x4x64x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S2x8x64x8x128, .f32⟩
  | .local _ .vmem, ⟨7, _⟩ => ⟨S2x8x64x8x128, .f32⟩
  | .local _ .vmem, ⟨8, _⟩ => ⟨S512x1024, .bf16⟩
  | .local _ .vmem, ⟨9, _⟩ => ⟨S4x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_17 : BitVec 32 := 1#32
  let v20 : BitVec 32 := Scalar.muli v6 c1_i32_17
  let v21 : BitVec 32 := Scalar.addi c0_i32 v20
  v21.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_19 : BitVec 32 := 1#32
  let v22 : BitVec 32 := Scalar.muli v4 c1_i32_19
  let v23 : BitVec 32 := Scalar.addi c0_i32_20 v22
  v23.toNat
def k0_off1 (d0 : Dev nD) (c0_i32_21 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let c0_i32_23 : BitVec 32 := 0#32
  let c0_i32_31 : BitVec 32 := 0#32
  let v24 : BitVec 32 := Scalar.addi v2 c0_i32_21
  let c4_i32_22 : BitVec 32 := 4#32
  let v25 : BitVec 32 := Scalar.remsi v24 c4_i32_22
  let c8_i32 : BitVec 32 := 8#32
  let v26 : BitVec 32 := Scalar.muli v25 c8_i32
  let c0_i32_32 : BitVec 32 := 0#32
  ![v2.toNat, 0, 0, 0, v26.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_47 : BitVec 32 := 1#32
  let v39 : BitVec 32 := Scalar.muli v4 c1_i32_47
  let v40 : BitVec 32 := Scalar.addi c0_i32_48 v39
  v40.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_57 : BitVec 32 := 1#32
  let v49 : BitVec 32 := Scalar.muli v6 c1_i32_57
  let v50 : BitVec 32 := Scalar.addi c0_i32_58 v49
  v50.toNat
def k0_off2 (d0 : Dev nD) (c0_i32_90 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_100 : BitVec 32 := 0#32
  let c1_i32_93 : BitVec 32 := 1#32
  let c0_i32_101 : BitVec 32 := 0#32
  let v80 : BitVec 32 := Scalar.addi v2 c0_i32_90
  let c4_i32_91 : BitVec 32 := 4#32
  let v81 : BitVec 32 := Scalar.remsi v80 c4_i32_91
  let c8_i32_92 : BitVec 32 := 8#32
  let v82 : BitVec 32 := Scalar.muli v81 c8_i32_92
  let c0_i32_102 : BitVec 32 := 0#32
  ![v2.toNat, 0, 1, 0, v82.toNat, 0]
def k0_off3 (d0 : Dev nD) (c0_i32_198 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_208 : BitVec 32 := 0#32
  let c2_i32_201 : BitVec 32 := 2#32
  let c0_i32_209 : BitVec 32 := 0#32
  let v295 : BitVec 32 := Scalar.addi v2 c0_i32_198
  let c4_i32_199 : BitVec 32 := 4#32
  let v296 : BitVec 32 := Scalar.remsi v295 c4_i32_199
  let c8_i32_200 : BitVec 32 := 8#32
  let v297 : BitVec 32 := Scalar.muli v296 c8_i32_200
  let c0_i32_210 : BitVec 32 := 0#32
  ![v2.toNat, 0, 2, 0, v297.toNat, 0]
def k0_off4 (d0 : Dev nD) (c0_i32_312 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_322 : BitVec 32 := 0#32
  let c3_i32_315 : BitVec 32 := 3#32
  let c0_i32_323 : BitVec 32 := 0#32
  let v510 : BitVec 32 := Scalar.addi v2 c0_i32_312
  let c4_i32_313 : BitVec 32 := 4#32
  let v511 : BitVec 32 := Scalar.remsi v510 c4_i32_313
  let c8_i32_314 : BitVec 32 := 8#32
  let v512 : BitVec 32 := Scalar.muli v511 c8_i32_314
  let c0_i32_324 : BitVec 32 := 0#32
  ![v2.toNat, 0, 3, 0, v512.toNat, 0]
def k0_dev5 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_562 : BitVec 32 := 1#32
  let v956 : BitVec 32 := Scalar.muli v4 c1_i32_562
  let v957 : BitVec 32 := Scalar.addi c0_i32_563 v956
  v957.toNat
def k0_dev6 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_572 : BitVec 32 := 1#32
  let v966 : BitVec 32 := Scalar.muli v6 c1_i32_572
  let v967 : BitVec 32 := Scalar.addi c0_i32_573 v966
  v967.toNat
def k0_dev7 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1063 : BitVec 32 := 1#32
  let v1829 : BitVec 32 := Scalar.muli v4 c1_i32_1063
  let v1830 : BitVec 32 := Scalar.addi c0_i32_1064 v1829
  v1830.toNat
def k0_dev8 (d0 : Dev nD) : Nat :=
  let c0_i32_1074 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1073 : BitVec 32 := 1#32
  let v1839 : BitVec 32 := Scalar.muli v6 c1_i32_1073
  let v1840 : BitVec 32 := Scalar.addi c0_i32_1074 v1839
  v1840.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8192x1024 : Shape := ⟨2, ![8192, 1024]⟩
abbrev S1024x4096 : Shape := ⟨2, ![1024, 4096]⟩
abbrev S4x8x4x64x32x128 : Shape := ⟨6, ![4, 8, 4, 64, 32, 128]⟩
abbrev S4096x1024 : Shape := ⟨2, ![4096, 1024]⟩
abbrev S4x2048x1024 : Shape := ⟨3, ![4, 2048, 1024]⟩
abbrev S4x2048x32x128 : Shape := ⟨4, ![4, 2048, 32, 128]⟩
abbrev S4x2048x4096 : Shape := ⟨3, ![4, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩
abbrev S32x4x64x1024 : Shape := ⟨4, ![32, 4, 64, 1024]⟩

abbrev nBuf : Space → Nat
  | .hbm => 145
  | .vmem => 0
  | .smem => 0
  | _ => 0

abbrev hbmTy0_0 (i : Nat) : BufTy := match i % 128 with
  | 0 => ⟨S8192x1024, .bf16⟩
  | 1 => ⟨S1024x4096, .bf16⟩
  | 2 => ⟨S4x8x4x64x32x128, .f32⟩
  | 3 => ⟨S4x8x4x64x32x128, .f32⟩
  | 4 => ⟨S4096x1024, .bf16⟩
  | 5 => ⟨S8192x1024, .f32⟩
  | 6 => ⟨S4x2048x1024, .f32⟩
  | 7 => ⟨S4x2048x32x128, .f32⟩
  | 8 => ⟨S4x2048x32x128, .f32⟩
  | 9 => ⟨S1024x4096, .f32⟩
  | 10 => ⟨S4x2048x4096, .f32⟩
  | 11 => ⟨S4x2048x32x128, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S1x2048, .i32⟩
  | 52 => ⟨S2048x2048, .i32⟩
  | 53 => ⟨S2048x2048, .i32⟩
  | 54 => ⟨S2048x2048, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x2048, .i32⟩
  | 62 => ⟨S1x2048, .i32⟩
  | 63 => ⟨S_, .i32⟩
  | 64 => ⟨S1x2048, .i32⟩
  | 65 => ⟨S1x2048, .i1⟩
  | 66 => ⟨S_, .i32⟩
  | 67 => ⟨S1x2048, .i32⟩
  | 68 => ⟨S1x2048, .i1⟩
  | 69 => ⟨S_, .i32⟩
  | 70 => ⟨S_, .i1⟩
  | 71 => ⟨S1x2048, .i1⟩
  | 72 => ⟨S1x2048, .i1⟩
  | 73 => ⟨S1x2048, .i1⟩
  | 74 => ⟨S1x2048, .i32⟩
  | 75 => ⟨S1x2048, .i32⟩
  | 76 => ⟨S1x2048, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i1⟩
  | 91 => ⟨S_, .i32⟩
  | 92 => ⟨S_, .i1⟩
  | 93 => ⟨S2048x1, .i1⟩
  | 94 => ⟨S2048x1, .i1⟩
  | 95 => ⟨S2048x1, .i1⟩
  | 96 => ⟨S2048x1, .i32⟩
  | 97 => ⟨S2048x1, .i32⟩
  | 98 => ⟨S2048x1, .i32⟩
  | 99 => ⟨S2048x2048, .i32⟩
  | 100 => ⟨S2048x2048, .i32⟩
  | 101 => ⟨S2048x2048, .i1⟩
  | 102 => ⟨S2048x2048, .i1⟩
  | 103 => ⟨S4x32x2048x2048, .f32⟩
  | 104 => ⟨S_, .f32⟩
  | 105 => ⟨S_, .f32⟩
  | 106 => ⟨S4x32x2048x2048, .f32⟩
  | 107 => ⟨S4x32x2048x2048, .f32⟩
  | 108 => ⟨S1x1x2048x2048, .i1⟩
  | 109 => ⟨S_, .f32⟩
  | 110 => ⟨S_, .f32⟩
  | 111 => ⟨S4x32x2048x2048, .i1⟩
  | 112 => ⟨S4x32x2048x2048, .f32⟩
  | 113 => ⟨S4x32x2048x2048, .f32⟩
  | 114 => ⟨S_, .f32⟩
  | 115 => ⟨S4x32x2048, .f32⟩
  | 116 => ⟨S4x32x2048x1, .f32⟩
  | 117 => ⟨S4x32x2048x2048, .f32⟩
  | 118 => ⟨S4x32x2048x2048, .f32⟩
  | 119 => ⟨S4x32x2048x2048, .f32⟩
  | 120 => ⟨S_, .i1⟩
  | 121 => ⟨S2048, .i1⟩
  | 122 => ⟨S1x1x2048x1, .i1⟩
  | 123 => ⟨S_, .f32⟩
  | 124 => ⟨S4x32x2048, .f32⟩
  | 125 => ⟨S4x32x2048x1, .f32⟩
  | 126 => ⟨S_, .f32⟩
  | 127 => ⟨S_, .f32⟩
  | _ => ⟨S8192x1024, .bf16⟩

abbrev hbmTy0_1 (i : Nat) : BufTy := match i % 128 with
  | 0 => ⟨S4x32x2048x1, .i1⟩
  | 1 => ⟨S4x32x2048x1, .f32⟩
  | 2 => ⟨S4x32x2048x1, .f32⟩
  | 3 => ⟨S4x32x2048x2048, .f32⟩
  | 4 => ⟨S4x32x2048x2048, .f32⟩
  | 5 => ⟨S1x1x2048x1, .i1⟩
  | 6 => ⟨S_, .f32⟩
  | 7 => ⟨S_, .f32⟩
  | 8 => ⟨S4x32x2048x2048, .i1⟩
  | 9 => ⟨S4x32x2048x2048, .f32⟩
  | 10 => ⟨S4x32x2048x2048, .f32⟩
  | 11 => ⟨S4x32x128x2048, .f32⟩
  | 12 => ⟨S4x2048x32x128, .f32⟩
  | 13 => ⟨S4x2048x4096, .f32⟩
  | 14 => ⟨S4096x1024, .f32⟩
  | 15 => ⟨S4x2048x1024, .f32⟩
  | 16 => ⟨S32x4x64x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_cst_3 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v27 : Ref sig .tc := ⟨.hbm, 113, rfl⟩
abbrev main_cst_4 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_c_5 : Ref sig .tc := ⟨.hbm, 120, rfl⟩
abbrev main_v33 : Ref sig .tc := ⟨.hbm, 121, rfl⟩
abbrev main_v34 : Ref sig .tc := ⟨.hbm, 122, rfl⟩
abbrev main_cst_6 : Ref sig .tc := ⟨.hbm, 123, rfl⟩
abbrev main_v35 : Ref sig .tc := ⟨.hbm, 124, rfl⟩
abbrev main_v36 : Ref sig .tc := ⟨.hbm, 125, rfl⟩
abbrev main_cst_7 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_8 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩

abbrev nD : Nat := 1
abbrev τ : Topo := Topo.v7x

variable {F : FTy → Type} [FloatOps F]
-- ==== Proof.KI.Body.lean ====
/- The body of the kernel, written again as a handful of parametric pieces: the four-step prologue, one hop of the two
   weight rings, one staged copy of K and V, one attention step of a (slot, class) pair and one application of the output
   weights. The body the program prints is these pieces in order (`body_eq`). -/
module

public import proofs.«01_k».proof.Proof.Gen.KernelIdeal
public import proofs.«01_k».proof.Proof.Gen.KernelIdeal.Points
public import proofs.«01_k».proof.Proof.Gen.KernelIdeal.Launch
public import Idealize.ShloMosaic.Lib.Pipeline.Regions

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F] [Named F]

/-! ## The buffers and the semaphores -/

/-- The staged block of x. -/
abbrev xM : Memref sig .tc .vmem S2048x1024 .bf16 := win0_0.stage 0
/-- The staged block of a weight: Wq (`false`) or Wo (`true`). -/
abbrev wM : Bool → Memref sig .tc .vmem S1024x1024 .bf16
  | false => win0_1.stage 0
  | true => win0_2.stage 0
/-- The staged block of the result. -/
abbrev oM : Memref sig .tc .vmem S8x4x64x1024 .f32 := win0_3.stage 0
/-- K (`false`) or V (`true`), in high-bandwidth memory. -/
abbrev hM : Bool → Memref sig .tc .hbm S4x8x4x64x32x128 .f32
  | false => Memref.whole main_arg2
  | true => Memref.whole main_arg3
/-- The four-slot ring buffer of Wq (`false`) or Wo (`true`). -/
abbrev rM : Bool → Memref sig .tc .vmem S4x1024x1024 .bf16
  | false => Memref.whole cc0_scratch0
  | true => Memref.whole cc0_scratch1
/-- The two-slot stage of K (`false`) or V (`true`). -/
abbrev gM : Bool → Memref sig .tc .vmem S2x8x64x8x128 .f32
  | false => Memref.whole cc0_scratch2
  | true => Memref.whole cc0_scratch3
/-- The context of one (slot, class) pair. -/
abbrev cM : Memref sig .tc .vmem S512x1024 .bf16 := Memref.whole cc0_scratch4
/-- The deferred contexts of slot 3, one per class. -/
abbrev fM : Memref sig .tc .vmem S4x512x1024 .bf16 := Memref.whole cc0_scratch5

theorem rM_whole : ∀ b, (rM b).IsWhole
  | false => Memref.isWhole_whole _
  | true => Memref.isWhole_whole _

/-- The send semaphores of a ring. -/
abbrev sendSems : Bool → DmaSems sig S3
  | false => cc0_scratch6
  | true => cc0_scratch8
/-- The receive semaphores of a ring. -/
abbrev recvSems : Bool → DmaSems sig S3
  | false => cc0_scratch7
  | true => cc0_scratch9
/-- The semaphores of the two stages of K (`false`) or V (`true`). -/
abbrev stageSems : Bool → DmaSems sig S2
  | false => cc0_scratch10
  | true => cc0_scratch11

theorem inb3 (h : Fin 3) : ∀ a, (![h.val] : Fin 1 → Nat) a + S1.size a ≤ S3.size a := by
  revert h; decide
theorem inb2 (h : Fin 2) : ∀ a, (![h.val] : Fin 1 → Nat) a + S1.size a ≤ S2.size a := by
  revert h; decide
/-- Semaphore `h` of three. -/
abbrev sem3 (a : DmaSems sig S3) (h : Fin 3) : DmaSem sig :=
  ((a.slice (Rect.unit (s := S3) ![h.val] S1.size (inb3 h))).squeeze S_ squeezes_S1_S_).sem
/-- Semaphore `h` of two. -/
abbrev sem2 (a : DmaSems sig S2) (h : Fin 2) : DmaSem sig :=
  ((a.slice (Rect.unit (s := S2) ![h.val] S1.size (inb2 h))).squeeze S_ squeezes_S1_S_).sem

/-- The runtime's barrier semaphore. -/
abbrev barS : Sem sig := (SemArray.scalar (sig.barrier 0 rfl) : Sems sig S_).sem

/-! ## The rectangles the body names -/

theorem inb_r (i : Fin 4) : ∀ a, (![i.val, 0, 0] : Fin 3 → Nat) a + S1x1024x1024.size a ≤ S4x1024x1024.size a := by
  revert i; decide
theorem inb_g (i : Fin 2) : ∀ a, (![i.val, 0, 0, 0, 0] : Fin 5 → Nat) a + S1x8x64x8x128.size a ≤ S2x8x64x8x128.size a := by
  revert i; decide
theorem inb_c (h : Fin 8) : ∀ a, (![0, 128 * h.val] : Fin 2 → Nat) a + S512x128.size a ≤ S512x1024.size a := by
  revert h; decide
theorem inb_f (r : Fin 4) (h : Fin 8) : ∀ a, (![r.val, 0, 128 * h.val] : Fin 3 → Nat) a + S1x512x128.size a ≤ S4x512x1024.size a := by
  revert r h; decide
theorem inb_f' (r : Fin 4) : ∀ a, (![r.val, 0, 0] : Fin 3 → Nat) a + S1x512x1024.size a ≤ S4x512x1024.size a := by
  revert r; decide
theorem inb_o (r : Fin 4) : ∀ a, (![0, r.val, 0, 0] : Fin 4 → Nat) a + S8x1x64x1024.size a ≤ S8x4x64x1024.size a := by
  revert r; decide

/-- Slot `i` of a ring buffer, as a rectangle. -/
abbrev rR (i : Fin 4) : Rect S4x1024x1024 := Rect.unit (s := S4x1024x1024) ![i.val, 0, 0] S1x1024x1024.size (inb_r i)
/-- Slot `i` of a K/V stage. -/
abbrev gR (i : Fin 2) : Rect S2x8x64x8x128 := Rect.unit (s := S2x8x64x8x128) ![i.val, 0, 0, 0, 0] S1x8x64x8x128.size (inb_g i)
/-- Head `h`'s columns of the context. -/
abbrev cR (h : Fin 8) : Rect S512x1024 := Rect.unit (s := S512x1024) ![0, 128 * h.val] S512x128.size (inb_c h)
/-- Head `h`'s columns of class `r`'s deferred context. -/
abbrev fR (r : Fin 4) (h : Fin 8) : Rect S4x512x1024 := Rect.unit (s := S4x512x1024) ![r.val, 0, 128 * h.val] S1x512x128.size (inb_f r h)
/-- Class `r`'s deferred context. -/
abbrev fR' (r : Fin 4) : Rect S4x512x1024 := Rect.unit (s := S4x512x1024) ![r.val, 0, 0] S1x512x1024.size (inb_f' r)
/-- Class `r`'s rows of the result block. -/
abbrev oR (r : Fin 4) : Rect S8x4x64x1024 := Rect.unit (s := S8x4x64x1024) ![0, r.val, 0, 0] S8x1x64x1024.size (inb_o r)

theorem packed_c (h : Fin 8) : (cR h).PackedRows (EltTy.packing .bf16) := by
  revert h; decide
theorem packed_f (r : Fin 4) (h : Fin 8) : (fR r h).PackedRows (EltTy.packing .bf16) := by
  revert r h; decide

theorem words_r (i : Fin 4) : (rR i).WholeWords (EltTy.packing .bf16) :=
  match i with
  | 0 => wordsbf16_S4x1024x1024_S1x1024x1024_0_0_0
  | 1 => wordsbf16_S4x1024x1024_S1x1024x1024_1_0_0
  | 2 => wordsbf16_S4x1024x1024_S1x1024x1024_2_0_0
  | 3 => wordsbf16_S4x1024x1024_S1x1024x1024_3_0_0

/-- Slot `i` of a ring buffer. -/
abbrev rS (b : Bool) (i : Fin 4) : Memref sig .tc .vmem S1024x1024 .bf16 :=
  ((rM b).slice (rR i) (fun _ => rfl)).squeeze S1024x1024 squeezes_S1x1024x1024_S1024x1024
/-- Slot `i` of a K/V stage. -/
abbrev gS (b : Bool) (i : Fin 2) : Memref sig .tc .vmem S8x64x8x128 .f32 :=
  ((gM b).slice (gR i) (fun _ => rfl)).squeeze S8x64x8x128 squeezes_S1x8x64x8x128_S8x64x8x128

/-- Where in K and V the copy of (slot `s`, class `r`) starts. -/
abbrev koff (d : Dev nD) (s r : Fin 4) : Fin 6 → Nat :=
  match r with
  | 0 => k0_off1 d (BitVec.ofNat 32 s.val)
  | 1 => k0_off2 d (BitVec.ofNat 32 s.val)
  | 2 => k0_off3 d (BitVec.ofNat 32 s.val)
  | 3 => k0_off4 d (BitVec.ofNat 32 s.val)

theorem koff_inb (d : Dev nD) (s r : Fin 4) : ∀ a, koff d s r a + S1x8x1x64x8x128.size a ≤ S4x8x4x64x32x128.size a :=
  match r with
  | 0 => k0_off1_inb d s
  | 1 => k0_off2_inb d s
  | 2 => k0_off3_inb d s
  | 3 => k0_off4_inb d s

/-- Device `d`'s rows of class `r`, heads of slot `s`, in K (`false`) or V (`true`). -/
abbrev hS (b : Bool) (d : Dev nD) (s r : Fin 4) : Memref sig .tc .hbm S8x64x8x128 .f32 :=
  ((hM b).slice (Rect.unit (s := S4x8x4x64x32x128) (koff d s r) S1x8x1x64x8x128.size (koff_inb d s r)) (fun _ => rfl)).squeeze
    S8x64x8x128 squeezes_S1x8x1x64x8x128_S8x64x8x128

theorem rS_words (b : Bool) (i : Fin 4) : (rS b i).view.WordExact :=
  ((rM_whole b).wordExact_slice rfl _ (words_r i)).reshape _ _
theorem gS_words (b : Bool) (i : Fin 2) : (gS b i).view.WordExact := (View.wordExact_bits rfl).reshape _ _
theorem hS_words (b : Bool) (d : Dev nD) (s r : Fin 4) : (hS b d s r).view.WordExact := (View.wordExact_bits rfl).reshape _ _

/-- The stage the copy of class `r` uses. -/
abbrev par : Fin 4 → Fin 2
  | 0 => 0
  | 1 => 1
  | 2 => 0
  | 3 => 1

/-! ## The hops of the two rings -/

/-- The slot hop `h` sends: Wq's ring goes down from slot 4 ≡ 0, Wo's up from slot 0. -/
abbrev srcSlot : Bool → Fin 3 → Fin 4
  | false, 0 => 0
  | false, 1 => 3
  | false, 2 => 2
  | true, 0 => 0
  | true, 1 => 1
  | true, 2 => 2
/-- The slot of the neighbour that hop `h` lands in. -/
abbrev dstSlot : Bool → Fin 3 → Fin 4
  | false, 0 => 3
  | false, 1 => 2
  | false, 2 => 1
  | true, 0 => 1
  | true, 1 => 2
  | true, 2 => 3
/-- The device hop `h` sends to, as the program computes it. -/
abbrev peerOf (d : Dev nD) : Bool → Fin 3 → Dev nD
  | false, 0 => ⟨k0_dev3 d, k0_dev3_lt d⟩
  | false, 1 => ⟨k0_dev5 d, k0_dev5_lt d⟩
  | false, 2 => ⟨k0_dev7 d, k0_dev7_lt d⟩
  | true, 0 => ⟨k0_dev4 d, k0_dev4_lt d⟩
  | true, 1 => ⟨k0_dev6 d, k0_dev6_lt d⟩
  | true, 2 => ⟨k0_dev8 d, k0_dev8_lt d⟩

/-- A program of the body. -/
abbrev KProg (F : FTy → Type) [FloatOps F] (α : Type) := Prog (TpuEff nD τ sig (Elt F) Λ₀ .tc) α

/-- One ring's copy of hop `h` is started. -/
def send (d : Dev nD) (b : Bool) (h : Fin 3) : KProg F PUnit :=
  Prog.lift (.enqueueDma (rS b (srcSlot b h)) (.remote (Dev.tc (peerOf d b h)) (rS b (dstSlot b h)) (.dma (sem3 (sendSems b) h)))
    (.dma (sem3 (recvSems b) h)) (rS_words b _) (rS_words b _) ⟨⟨rfl, Or.inl rfl⟩, trivial⟩)

/-- One ring's copy of hop `h` is waited for: the own one has left, then the neighbour's has arrived. -/
def recv (b : Bool) (h : Fin 3) : KProg F PUnit := do
  Prog.lift (.waitDma2 (sem3 (sendSems b) h) (rS b (dstSlot b h)) (rS b (srcSlot b h)) (rS_words b _) (rS_words b _))
  Prog.lift (.waitDma2 (sem3 (recvSems b) h) (rS b (srcSlot b h)) (rS b (dstSlot b h)) (rS_words b _) (rS_words b _))

/-- The copy of (slot `s`, class `r`) of K or V is started. -/
def issue1 (d : Dev nD) (s r : Fin 4) (b : Bool) : KProg F PUnit :=
  Prog.lift (.enqueueDma (hS b d s r) (.here (gS b (par r))) (.dma (sem2 (stageSems b) (par r))) (hS_words b d s r) (gS_words b _)
    ⟨Or.inl rfl, trivial⟩)
/-- The copies of (slot `s`, class `r`) of K and V are started. -/
def issue (d : Dev nD) (s r : Fin 4) : KProg F PUnit := do
  issue1 d s r false
  issue1 d s r true
/-- The copy of (slot `s`, class `r`) of K or V is waited for. -/
def await1 (d : Dev nD) (s r : Fin 4) (b : Bool) : KProg F PUnit :=
  Prog.lift (.waitDma2 (sem2 (stageSems b) (par r)) (hS b d s r) (gS b (par r)) (hS_words b d s r) (gS_words b _))

/-! ## The values the body computes -/

theorem slices_q (r : Fin 4) : S8x4x64x1024.Slices ![0, r.val, 0, 0] S8x1x64x1024 := by
  revert r; decide
theorem slices_h (h : Fin 8) : S512x1024.Slices ![0, 128 * h.val] S512x128 := by
  revert h; decide
theorem slices_k (h : Fin 8) : S8x64x8x128.Slices ![0, 0, h.val, 0] S8x64x1x128 := by
  revert h; decide

/-- The scaled queries of one slot's heads. -/
def qgOf (x : Vec F S2048x1024 .bf16) (w : Vec F S1x1024x1024 .bf16) : FVec F S8x4x64x1024 .bf16 :=
  shapeCast S8x4x64x1024
    (truncf .bf16
      (mulf
        (matmul dot_S2048x1024_S1024x1024_S2048x1024_1_0_0_1_n_n none (shapeCast S2048x1024 x shapeCasts_S2048x1024_S2048x1024 : FVec F S2048x1024 .bf16)
          (shapeCast S1024x1024 w shapeCasts_S1x1024x1024_S1024x1024 : FVec F S1024x1024 .bf16) (constant S2048x1024 .f32 0x00000000#32 : FVec F S2048x1024 .f32))
        (broadcast S2048x1024 (Named.named κ "scale" 0x3DB504F3#32 : F .f32)))
      bitsLt_bf16_f32 : FVec F S2048x1024 .bf16)
    shapeCasts_S2048x1024_S8x4x64x1024

/-- Class `r`'s rows of the queries. -/
def qrOf (r : Fin 4) (qg : FVec F S8x4x64x1024 .bf16) : FVec F S512x1024 .bf16 :=
  shapeCast S512x1024
    (shapeCast S8x64x1024 (extractStridedSlice S8x1x64x1024 ![0, r.val, 0, 0] qg (slices_q r) : FVec F S8x1x64x1024 .bf16)
      shapeCasts_S8x1x64x1024_S8x64x1024 : FVec F S8x64x1024 .bf16)
    shapeCasts_S8x64x1024_S512x1024

/-- A staged block of K or V, rounded. -/
def kbOf (k : Vec F S1x8x64x8x128 .f32) : FVec F S8x64x8x128 .bf16 :=
  truncf .bf16 (shapeCast S8x64x8x128 k shapeCasts_S1x8x64x8x128_S8x64x8x128 : FVec F S8x64x8x128 .f32) bitsLt_bf16_f32

/-- Head `h`'s rows of a block of K or V. -/
def khOf (h : Fin 8) (k : FVec F S8x64x8x128 .bf16) : FVec F S512x128 .bf16 :=
  shapeCast S512x128
    (shapeCast S8x64x128 (extractStridedSlice S8x64x1x128 ![0, 0, h.val, 0] k (slices_k h) : FVec F S8x64x1x128 .bf16)
      shapeCasts_S8x64x1x128_S8x64x128 : FVec F S8x64x128 .bf16)
    shapeCasts_S8x64x128_S512x128

/-- The exponentials of head `h`'s scores. -/
def expOf (h : Fin 8) (q : FVec F S512x1024 .bf16) (k : FVec F S8x64x8x128 .bf16) : FVec F S512x512 .f32 :=
  exp (matmul dot_S512x128_S512x128_S512x512_1_1_0_0_n_n none (extractStridedSlice S512x128 ![0, 128 * h.val] q (slices_h h) : FVec F S512x128 .bf16)
    (khOf h k) (constant S512x512 .f32 0x00000000#32 : FVec F S512x512 .f32))

/-- Head `h`'s context. -/
def headOf (h : Fin 8) (q : FVec F S512x1024 .bf16) (k v : FVec F S8x64x8x128 .bf16) : FVec F S512x128 .bf16 :=
  truncf .bf16
    (mulf
      (matmul dot_S512x512_S512x128_S512x128_1_0_0_1_n_n none (truncf .bf16 (expOf h q k) bitsLt_bf16_f32 : FVec F S512x512 .bf16) (khOf h v)
        (constant S512x128 .f32 0x00000000#32 : FVec F S512x128 .f32))
      (broadcastTo S512x128
        (divf (broadcast S512x1 (Scalar.ofBits .f32 0x3F800000#32 : F .f32))
          (shapeCast S512x1 (multiReduction .add [1] S512 (expOf h q k) 0x00000000#32 reduces_S512x512_S512 (.inl rfl) rfl : FVec F S512 .f32)
            shapeCasts_S512_S512x1 : FVec F S512x1 .f32))
        broadcasts_S512x1_S512x128))
    bitsLt_bf16_f32

/-- What applying the output weights adds to, and leaves in, a class's rows of the result. -/
def accOf (ctx : FVec F S512x1024 .bf16) (w : Vec F S1x1024x1024 .bf16) (o : Vec F S8x1x64x1024 .f32) : FVec F S8x1x64x1024 .f32 :=
  shapeCast S8x1x64x1024
    (addf (shapeCast S8x64x1024 o shapeCasts_S8x1x64x1024_S8x64x1024 : FVec F S8x64x1024 .f32)
      (shapeCast S8x64x1024
        (matmul dot_S512x1024_S1024x1024_S512x1024_1_0_0_1_n_n none ctx (shapeCast S1024x1024 w shapeCasts_S1x1024x1024_S1024x1024 : FVec F S1024x1024 .bf16)
          (constant S512x1024 .f32 0x00000000#32 : FVec F S512x1024 .f32))
        shapeCasts_S512x1024_S8x64x1024 : FVec F S8x64x1024 .f32))
    shapeCasts_S8x64x1024_S8x1x64x1024

/-! ## The pieces of the body -/

/-- Slot `i` of a ring is loaded. -/
def loadR (b : Bool) (i : Fin 4) : KProg F (Vec F S1x1024x1024 .bf16) :=
  Prog.lift (.load (rM b) (rR i).toLoadRect (View.loadsAt_vmem h_S1x1024x1024))

/-- The own block of a weight is put into slot 0. -/
def seed (b : Bool) : KProg F PUnit := do
  let w : Vec F S1024x1024 .bf16 ← Prog.lift (.load (wM b) (Rect.unit (s := S1024x1024) ![0, 0] S1024x1024.size inb_S1024x1024_S1024x1024_0_0).toLoadRect
    (View.loadsAt_vmem h_S1024x1024))
  let _ ← loadR b 0
  Prog.lift (.store (rM b) (rR 0)
    (shapeCast S1x1024x1024 (shapeCast S1024x1024 w shapeCasts_S1024x1024_S1024x1024 : FVec F S1024x1024 .bf16) shapeCasts_S1024x1024_S1x1024x1024 : FVec F S1x1024x1024 .bf16)
    Finset.univ (View.stores_vmem h_S1x1024x1024 ((rM_whole b).storeExact_slice rfl _ packedbf16_S4x1024x1024_S1x1024x1024_0_0_0) (fun _ => rfl)) (.inl rfl))

/-- The result block is zeroed. -/
def zeroOut : KProg F PUnit := do
  let _ : Vec F S8x4x64x1024 .f32 ← Prog.lift (.load oM (Rect.unit (s := S8x4x64x1024) ![0, 0, 0, 0] S8x4x64x1024.size inb_S8x4x64x1024_S8x4x64x1024_0_0_0_0).toLoadRect
    (View.loadsAt_vmem h_S8x4x64x1024))
  Prog.lift (.store oM (Rect.unit (s := S8x4x64x1024) ![0, 0, 0, 0] S8x4x64x1024.size inb_S8x4x64x1024_S8x4x64x1024_0_0_0_0)
    (broadcast S8x4x64x1024 (Scalar.ofBits .f32 0x00000000#32 : F .f32) : FVec F S8x4x64x1024 .f32) Finset.univ
    (View.stores_vmem_bits_univ h_S8x4x64x1024 rfl) (.inl rfl))

/-- The two neighbours are told that the landing slots are free, and both tell so. -/
def handshake (d : Dev nD) : KProg F PUnit := do
  semSignalWord (⟨k0_dev1 d, k0_dev1_lt d⟩ : Dev nD) barS 1#32
  semSignalWord (⟨k0_dev2 d, k0_dev2_lt d⟩ : Dev nD) barS 1#32
  semWaitWord barS 2#32

/-- The queries of slot `s`. -/
def queries (s : Fin 4) : KProg F (FVec F S8x4x64x1024 .bf16) := do
  let x : Vec F S2048x1024 .bf16 ← Prog.lift (.load xM (Rect.unit (s := S2048x1024) ![0, 0] S2048x1024.size inb_S2048x1024_S2048x1024_0_0).toLoadRect
    (View.loadsAt_vmem h_S2048x1024))
  let w ← loadR false s
  pure (qgOf x w)

/-- The staged block of K or V is loaded. -/
def loadG (b : Bool) (i : Fin 2) : KProg F (Vec F S1x8x64x8x128 .f32) :=
  Prog.lift (.load (gM b) (gR i).toLoadRect (View.loadsAt_vmem h_S1x8x64x8x128))

/-- Head `h`'s context is stored. -/
def headC (q : FVec F S512x1024 .bf16) (k v : FVec F S8x64x8x128 .bf16) (h : Fin 8) : KProg F PUnit := do
  let _ : Vec F S512x128 .bf16 ← Prog.lift (.load cM (cR h).toLoadRect (View.loadsAt_vmem h_S512x128))
  Prog.lift (.store cM (cR h) (shapeCast S512x128 (headOf h q k v) shapeCasts_S512x128_S512x128 : FVec F S512x128 .bf16) Finset.univ
    (View.stores_vmem h_S512x128 ((Memref.isWhole_whole cc0_scratch4).storeExact_slice rfl _ (packed_c h)) (fun _ => rfl)) (.inl rfl))

/-- Head `h`'s context is stored in the deferred contexts, class `r`. -/
def headF (r : Fin 4) (q : FVec F S512x1024 .bf16) (k v : FVec F S8x64x8x128 .bf16) (h : Fin 8) : KProg F PUnit := do
  let _ : Vec F S1x512x128 .bf16 ← Prog.lift (.load fM (fR r h).toLoadRect (View.loadsAt_vmem h_S1x512x128))
  Prog.lift (.store fM (fR r h) (shapeCast S1x512x128 (headOf h q k v) shapeCasts_S512x128_S1x512x128 : FVec F S1x512x128 .bf16) Finset.univ
    (View.stores_vmem h_S1x512x128 ((Memref.isWhole_whole cc0_scratch5).storeExact_slice rfl _ (packed_f r h)) (fun _ => rfl)) (.inl rfl))

/-- The eight heads, in order. -/
def eight (p : Fin 8 → KProg F PUnit) : KProg F PUnit := do
  p 0; p 1; p 2; p 3; p 4; p 5; p 6; p 7

/-- A context, through slot `i` of the output weights, is added into class `r`'s rows of the result. -/
def apply (i r : Fin 4) (ctx : FVec F S512x1024 .bf16) : KProg F PUnit := do
  let w ← loadR true i
  let o : Vec F S8x1x64x1024 .f32 ← Prog.lift (.load oM (oR r).toLoadRect (View.loadsAt_vmem h_S8x1x64x1024))
  let _ : Vec F S8x1x64x1024 .f32 ← Prog.lift (.load oM (oR r).toLoadRect (View.loadsAt_vmem h_S8x1x64x1024))
  Prog.lift (.store oM (oR r) (accOf ctx w o) Finset.univ (View.stores_vmem_bits_univ h_S8x1x64x1024 rfl) (.inl rfl))

/-- The staged blocks are waited for, the next ones started, and loaded. -/
def stageIn (d : Dev nD) (s r : Fin 4) (next : KProg F PUnit) : KProg F (FVec F S8x64x8x128 .bf16 × FVec F S8x64x8x128 .bf16) := do
  await1 d s r false
  await1 d s r true
  next
  let k ← loadG false (par r)
  let v ← loadG true (par r)
  pure (kbOf k, kbOf v)

/-- One (slot, class) pair: the context, then its share of the result. -/
def step (d : Dev nD) (s r : Fin 4) (qg : FVec F S8x4x64x1024 .bf16) (next : KProg F PUnit) : KProg F PUnit := do
  let kv ← stageIn d s r next
  eight (headC (qrOf r qg) kv.1 kv.2)
  let c : Vec F S512x1024 .bf16 ← Prog.lift (.load cM (Rect.unit (s := S512x1024) ![0, 0] S512x1024.size inb_S512x1024_S512x1024_0_0).toLoadRect
    (View.loadsAt_vmem h_S512x1024))
  apply s r c

/-- One (slot, class) pair whose context is kept for later. -/
def stepF (d : Dev nD) (s r : Fin 4) (qg : FVec F S8x4x64x1024 .bf16) (next : KProg F PUnit) : KProg F PUnit := do
  let kv ← stageIn d s r next
  eight (headF r (qrOf r qg) kv.1 kv.2)

/-- A kept context's share of the result. -/
def applyF (i r : Fin 4) : KProg F PUnit := do
  let c : Vec F S1x512x1024 .bf16 ← Prog.lift (.load fM (fR' r).toLoadRect (View.loadsAt_vmem h_S1x512x1024))
  apply i r (shapeCast S512x1024 c shapeCasts_S1x512x1024_S512x1024)

/-- A slot's four classes; after the last, `next` is started. -/
def slot (d : Dev nD) (s : Fin 4) (next : KProg F PUnit) : KProg F PUnit := do
  let qg ← queries s
  step d s 0 qg (issue d s 1)
  step d s 1 qg (issue d s 2)
  step d s 2 qg (issue d s 3)
  step d s 3 qg next
/-- A slot's four classes, their contexts kept. -/
def slotF (d : Dev nD) (s : Fin 4) (next : KProg F PUnit) : KProg F PUnit := do
  let qg ← queries s
  stepF d s 0 qg (issue d s 1)
  stepF d s 1 qg (issue d s 2)
  stepF d s 2 qg (issue d s 3)
  stepF d s 3 qg next

/-- The body. -/
def body : KProg F PUnit := do
  let d : Dev nD ← Prog.lift .deviceId
  seed false
  seed true
  zeroOut
  handshake d
  issue d 0 0
  send d false 0
  send d true 0
  slot d 0 (issue d 3 0)
  recv false 0
  recv true 0
  send d false 1
  send d true 1
  slotF d 3 (issue d 2 0)
  recv false 1
  recv true 1
  send d false 2
  send d true 2
  slot d 2 (issue d 1 0)
  recv false 2
  recv true 2
  applyF 3 0
  applyF 3 1
  applyF 3 2
  applyF 3 3
  slot d 1 (pure ⟨⟩)

set_option maxRecDepth 100000 in
/-- The printed body is these pieces in order. -/
theorem body_eq (t : Fin cfg0.N) : (bodyAt0 (F := F) t) = body := by
  chain_rfl

end Cert.KernelIdealProof

end
-- ==== Proof.KI.Schedule.lean ====
/- The protocol of the two weight rings: which semaphore of which device is raised by whom, what each raise hands over, in
   which order a device may wait. Twelve semaphores per device belong to the six hops (one that the own block has left, one
   that the neighbour's has arrived, per ring and hop); a thirteenth is the runtime's barrier, on which each neighbour hands
   over the slots its blocks will be written to. -/
module

public import proofs.«01_k».proof.Proof.KI.Body
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.ViewIndex
public import Idealize.ShloMosaic.Lib.Writes
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds' ghost state, duties named by a Boolean. -/
abbrev UB : Type := URounds (GSem nD τ sig) Bool
/-- The pipeline's rounds, the rings' rounds, the staged copies' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The ring of devices -/

/-- The next device. -/
def nxt (c : Dev nD) : Dev nD := ⟨(c.val + 1) % 4, Nat.mod_lt _ (by decide)⟩
/-- The device before. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- The devices, turned by one. -/
def ring : Dev nD ≃ Dev nD := ⟨nxt, prv, prv_nxt, nxt_prv⟩

/-- The device ring `b` sends to: Wq's goes to the next device, Wo's to the one before. -/
def peer (b : Bool) (c : Dev nD) : Dev nD := bif b then prv c else nxt c

theorem peerOf_eq (d : Dev nD) : ∀ (b : Bool) (h : Fin 3), peerOf d b h = peer b d
  | false, 0 => Fin.ext (k0_dev3_eq d)
  | false, 1 => Fin.ext (k0_dev5_eq d)
  | false, 2 => Fin.ext (k0_dev7_eq d)
  | true, 0 => Fin.ext (k0_dev4_eq d)
  | true, 1 => Fin.ext (k0_dev6_eq d)
  | true, 2 => Fin.ext (k0_dev8_eq d)

/-- The device `i` further on. -/
def rot (c : Dev nD) (i : Fin 4) : Dev nD := ⟨(c.val + i.val) % 4, Nat.mod_lt _ (by decide)⟩
theorem rot_zero (c : Dev nD) : rot c 0 = c := by revert c; decide
/-- A hop moves a device's block to the slot of the same device, seen from the neighbour. -/
theorem rot_hop (c : Dev nD) (b : Bool) (h : Fin 3) : rot (peer b c) (dstSlot b h) = rot c (srcSlot b h) := by
  revert c b h; decide

/-! ## The cells -/

/-- The semaphore of hop `h` of ring `b`: that its block has left (`false`), that one has arrived (`true`). -/
def xsem (b k : Bool) (h : Fin 3) : DmaSem sig := ⟨4 + 6 * b.toNat + 3 * k.toNat + h.val, by revert b k h; decide⟩
theorem sem3_send (b : Bool) (h : Fin 3) : sem3 (sendSems b) h = xsem b false h := by cases b <;> fin_cases h <;> rfl
theorem sem3_recv (b : Bool) (h : Fin 3) : sem3 (recvSems b) h = xsem b true h := by cases b <;> fin_cases h <;> rfl
/-- The semaphore of stage `i` of K (`false`) or V (`true`). -/
def gsem (b : Bool) (i : Fin 2) : DmaSem sig := ⟨16 + 2 * b.toNat + i.val, by revert b i; decide⟩
theorem sem2_stage (b : Bool) (i : Fin 2) : sem2 (stageSems b) i = gsem b i := by cases b <;> fin_cases i <;> rfl

/-- Which hop's, and which of its two, a semaphore is. -/
def xferOf : SemLoc sig → Option (Bool × Bool × Fin 3)
  | .dma q => if 4 ≤ q.val ∧ q.val < 16 then
      some (decide (10 ≤ q.val), decide ((q.val - 4) % 6 ≥ 3), ⟨(q.val - 4) % 3, Nat.mod_lt _ (by decide)⟩) else none
  | .reg _ => none
theorem xferOf_xsem (b k : Bool) (h : Fin 3) : xferOf (.dma (xsem b k h)) = some (b, k, h) := by revert b k h; decide
theorem xferOf_gsem (b : Bool) (i : Fin 2) : xferOf (.dma (gsem b i)) = none := by revert b i; decide
theorem xferOf_bar : xferOf (.reg barS) = none := rfl
theorem xsem_ne_gsem (b k : Bool) (h : Fin 3) (b' : Bool) (i : Fin 2) : xsem b k h ≠ gsem b' i := by revert b k h b' i; decide

abbrev barCell (c : Dev nD) : GSem nD τ sig := ((c : Thread nD τ), .reg barS)
abbrev xCell (c : Dev nD) (b k : Bool) (h : Fin 3) : GSem nD τ sig := ((c : Thread nD τ), .dma (xsem b k h))

/-- What a hop's copy adds to a semaphore. -/
abbrev N : ℕ := (rS false 0).view.dmaCredit
theorem N_pos : 0 < N := View.dmaCredit_pos _ (by decide)
theorem N_eq (b : Bool) (i : Fin 4) : (rS b i).view.dmaCredit = N := by cases b <;> rfl

/-! ## What the buffers hold -/

/-- The staged block of a weight on device `d`. -/
def wStg (b : Bool) (d : Dev nD) : Vec F S1024x1024 .bf16 :=
  match b with
  | false => (win0_1.blk (0 : Fin 1)).view.read (Elt F) (m ((d : Thread nD τ).loc main_arg1))
  | true => (win0_2.blk (0 : Fin 1)).view.read (Elt F) (m ((d : Thread nD τ).loc main_arg4))
/-- Device `d`'s block of a weight, as it lies in a slot. -/
def wBlk (b : Bool) (d : Dev nD) : Vec F S1x1024x1024 .bf16 :=
  shapeCast S1x1024x1024 (shapeCast S1024x1024 (wStg m b d) shapeCasts_S1024x1024_S1024x1024 : FVec F S1024x1024 .bf16) shapeCasts_S1024x1024_S1x1024x1024
/-- What slot `i` of device `c` comes to hold. -/
def wAt (b : Bool) (c : Dev nD) (i : Fin 4) : Vec F S1x1024x1024 .bf16 := wBlk m b (rot c i)

/-- Slot `i` of ring `b`, unsqueezed. -/
abbrev rU (b : Bool) (i : Fin 4) : Memref sig .tc .vmem S1x1024x1024 .bf16 := (rM b).slice (rR i) (fun _ => rfl)
/-- Stage `i` of K or V, unsqueezed. -/
abbrev gU (b : Bool) (i : Fin 2) : Memref sig .tc .vmem S1x8x64x8x128 .f32 := (gM b).slice (gR i) (fun _ => rfl)

/-- Slot `i` of ring `b` on device `c`, owned at share `q`, holding `X`. -/
def slotP (q : PosShare TreeShare) (c : Dev nD) (b : Bool) (i : Fin 4) (X : Vec F S1x1024x1024 .bf16) : sProp 𝕄 :=
  owns (c : Thread nD τ) (rU b i) q X
/-- A slot of `c` that a block may be written to. -/
def landP (c : Dev nD) (b : Bool) (h : Fin 3) : sProp 𝕄 := iprop(∃ X, slotP fullShare c b (dstSlot b h) X)
/-- The three. -/
def landsP (c : Dev nD) (b : Bool) : sProp 𝕄 := iprop(landP c b 0 ∗ landP c b 1 ∗ landP c b 2)

omit [FloatOps F] [Named F] in
instance slotP_storable (q) (c : Dev nD) (b i) (X) : BI.Storable (upEmb : UEmb _ 𝕄) (slotP (F := F) q c b i X) := by
  unfold slotP; infer_instance
omit [FloatOps F] [Named F] in
instance landsP_storable (c : Dev nD) (b) : BI.Storable (upEmb : UEmb _ 𝕄) (landsP (F := F) c b) := by
  unfold landsP landP; infer_instance

/-! ## The schedule -/

abbrev IsBar (g : GSem nD τ sig) : Prop := g.1.2 = .tc ∧ g.2 = .reg barS
abbrev IsXfer (g : GSem nD τ sig) : Prop := g.1.2 = .tc ∧ (xferOf g.2).isSome = true

/-- What a hop's semaphore hands over: the half of the sent slot that was lent to the copy, or the slot written to. -/
def xferPay (c : Dev nD) : Option (Bool × Bool × Fin 3) → sProp 𝕄
  | some (b, false, h) => slotP fullShare.left c b (srcSlot b h) (wAt m b c (srcSlot b h))
  | some (b, true, h) => slotP fullShare c b (dstSlot b h) (wAt m b c (dstSlot b h))
  | none => iprop(emp)

instance xferPay_storable (c : Dev nD) : ∀ x, BI.Storable (upEmb : UEmb _ 𝕄) (xferPay m c x)
  | some (b, false, h) => by unfold xferPay; infer_instance
  | some (b, true, h) => by unfold xferPay; infer_instance
  | none => by unfold xferPay; infer_instance

def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then landsP (peer (!d) g.1.1) (!d) else xferPay m g.1.1 (xferOf g.2)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barS then landsP (peer (!d) g.1.1) (!d) else xferPay m g.1.1 (xferOf g.2))
  split <;> infer_instance

section Sched
variable (c : Dev nD)

theorem duties_bar : (ringRd (F := F) m).duties (barCell c) 0 = Finset.univ := by dsimp only [ringRd]; exact if_pos ⟨rfl, rfl, rfl⟩
theorem duties_xfer (b k : Bool) (h : Fin 3) : (ringRd (F := F) m).duties (xCell c b k h) 0 = {false} := by
  dsimp only [ringRd]; rw [if_neg (fun h => by cases h.2.2)]
  exact if_pos ⟨rfl, rfl, by rw [xferOf_xsem]; rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Bool) : (ringRd (F := F) m).amount (barCell c) 0 d = 1 := by dsimp only [ringRd]; exact if_pos rfl
theorem amount_xfer (b k : Bool) (h : Fin 3) (d : Bool) : (ringRd (F := F) m).amount (xCell c b k h) 0 d = N := by
  dsimp only [ringRd]; exact if_neg (fun h => by cases h)

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_xfer (b k : Bool) (h : Fin 3) : (ringRd (F := F) m).expect (xCell c b k h) 0 = N := by
  unfold Schedule.expect Schedule.amountOf; rw [duties_xfer, Finset.sum_singleton, amount_xfer]

theorem payload_bar (d : Bool) : (ringRd (F := F) m).payload (barCell c) 0 d = landsP (peer (!d) c) (!d) := by
  dsimp only [ringRd]; exact if_pos rfl
theorem payload_xfer (b k : Bool) (h : Fin 3) (d : Bool) :
    (ringRd (F := F) m).payload (xCell c b k h) 0 d = xferPay m c (some (b, k, h)) := by
  dsimp only [ringRd]; rw [if_neg (fun h => by cases h), xferOf_xsem]

theorem rest_bar : bigSep ((ringRd (F := F) m).duties (barCell c) 0 \ ∅) (fun d => (ringRd (F := F) m).payload (barCell c) 0 d)
    = iprop(landsP (nxt c) false ∗ landsP (prv c) true) := by
  rw [Finset.sdiff_empty, duties_bar, bigSep_univ_eq_bigSepL [true, false] (by decide) (by decide), bigSepL_cons_cons, bigSepL_singleton,
    payload_bar, payload_bar]
  rfl
theorem rest_xfer (b k : Bool) (h : Fin 3) :
    bigSep ((ringRd (F := F) m).duties (xCell c b k h) 0 \ ∅) (fun d => (ringRd (F := F) m).payload (xCell c b k h) 0 d)
      = xferPay m c (some (b, k, h)) := by
  rw [Finset.sdiff_empty, duties_xfer, bigSep_singleton, payload_xfer]

end Sched

/-! ## What each device owes; the order of the waits -/

/-- The hops, in the order they are started. -/
abbrev hops : List (Bool × Fin 3) := [(false, 0), (true, 0), (false, 1), (true, 1), (false, 2), (true, 2)]

/-- What device `c` owes with the hops `l` still to start: each arrival, to the neighbour. -/
def oweL (c : Dev nD) : List (Bool × Fin 3) → CellTallies nD τ sig Unit
  | [] => 0
  | x :: l => oweL c l + tallyAt (xCell (peer x.1 c) x.1 true x.2) () N
/-- At launch it owes both neighbours a unit of the barrier too. -/
def O₁ (c : Dev nD) : CellTallies nD τ sig Unit := oweL c hops + tallyAt (barCell (nxt c)) () 1
def O₀ (c : Dev nD) : CellTallies nD τ sig Unit := O₁ c + tallyAt (barCell (prv c)) () 1

def L (g : GSem nD τ sig) : Finset Unit := if g.1.2 = .tc then {()} else ∅
/-- The order: the barrier, then the arrivals by hop; everything else is below. -/
def lvS (sm : SemLoc sig) : ℕ := if sm = .reg barS then 1 else match xferOf sm with
  | some (_, true, h) => h.val + 2
  | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (.reg barS) = 1 := if_pos rfl
theorem lvS_recv (b : Bool) (h : Fin 3) : lvS (.dma (xsem b true h)) = h.val + 2 := by revert b h; decide
theorem lvS_send (b : Bool) (h : Fin 3) : lvS (.dma (xsem b false h)) = 0 := by revert b h; decide
theorem lvS_gsem (b : Bool) (i : Fin 2) : lvS (.dma (gsem b i)) = 0 := by revert b i; decide

theorem oweL_pos {c : Dev nD} {g : GSem nD τ sig} {u : Unit} : ∀ {l : List (Bool × Fin 3)}, 0 < oweL c l g u →
    ∃ x ∈ l, g = xCell (peer x.1 c) x.1 true x.2
  | [], h => absurd h (Nat.lt_irrefl 0)
  | x :: l, h => by
    unfold oweL at h
    rw [Pi.add_apply, Finsupp.add_apply, tallyAt_apply] at h
    by_cases hx : g = xCell (peer x.1 c) x.1 true x.2
    · exact ⟨x, List.mem_cons_self, hx⟩
    · rw [if_neg (fun h' => hx h'.1), Nat.add_zero] at h
      obtain ⟨y, hy, e⟩ := oweL_pos h
      exact ⟨y, List.mem_cons_of_mem _ hy, e⟩
theorem O₀_pos {c : Dev nD} {g : GSem nD τ sig} {u : Unit} (h : 0 < O₀ c g u) :
    (∃ x ∈ hops, g = xCell (peer x.1 c) x.1 true x.2) ∨ g = barCell (nxt c) ∨ g = barCell (prv c) := by
  unfold O₀ O₁ at h
  rw [Pi.add_apply, Finsupp.add_apply, Pi.add_apply, Finsupp.add_apply, tallyAt_apply, tallyAt_apply] at h
  by_contra hn
  obtain ⟨h1, h2⟩ := not_or.mp hn; rw [not_or] at h2
  rw [if_neg (fun h' => h2.1 h'.1), if_neg (fun h' => h2.2 h'.1)] at h
  simp only [Nat.add_zero] at h
  exact h1 (oweL_pos h)

omit [FloatOps F] [Named F] in
/-- A device may wait on a semaphore that comes before every arrival it still owes. -/
theorem mayWait_hops (c : Dev nD) (sm : SemLoc sig) (l : List (Bool × Fin 3)) (h : ∀ x ∈ l, lvS sm < x.2.val + 2) :
    (levAts L lv : sProp 𝕄) ⊢ MayWait (c : Thread nD τ) sm () (oweL c l) :=
  MayOwe.of_cut (L := L) (lev := lv) (lvS sm) (fun p hp => by rw [Finset.mem_singleton.mp hp, L_tc]; exact Finset.mem_singleton_self _)
    (fun g u hg => by obtain ⟨x, -, rfl⟩ := oweL_pos hg; exact Finset.mem_singleton_self _)
    (fun p hp => by rw [Finset.mem_singleton.mp hp]; exact le_rfl)
    (fun g u hg => by obtain ⟨x, hx, rfl⟩ := oweL_pos hg; dsimp only [lv]; rw [lvS_recv]; exact h x hx)

omit [FloatOps F] [Named F] in
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | rfl | rfl <;> exact Finset.mem_singleton_self _)
      (fun p hp => by rw [Finset.mem_singleton.mp hp]; exact le_of_eq hq)
      (fun g u hg => by
        rcases O₀_pos hg with ⟨x, -, rfl⟩ | rfl | rfl <;> dsimp only [lv]
        · rw [lvS_recv]; omega
        · rw [lvS_bar]; decide
        · rw [lvS_bar]; decide)
  · rw [MayWait_zero]; iintro -; iempintro

/-! ## The thirteen cells, listed -/

/-- The barrier, then the twelve. -/
def csem (k : Fin 13) : SemLoc sig := if h : k.val = 0 then .reg barS else .dma ⟨k.val + 3, by have := k.isLt; show k.val + 3 < 20; omega⟩
abbrev kcell (ck : Dev nD × Fin 13) : GSem nD τ sig := ((ck.1 : Thread nD τ), csem ck.2)
/-- The place of a hop's semaphore in the list. -/
def cix (b k : Bool) (h : Fin 3) : Fin 13 := ⟨1 + 6 * b.toNat + 3 * k.toNat + h.val, by revert b k h; decide⟩
theorem kcell_bar (c : Dev nD) : kcell (c, 0) = barCell c := rfl
theorem csem_cix (b k : Bool) (h : Fin 3) : csem (cix b k h) = .dma (xsem b k h) := by revert b k h; decide
theorem kcell_xfer (c : Dev nD) (b k : Bool) (h : Fin 3) : kcell (c, cix b k h) = xCell c b k h := by
  show ((c : Thread nD τ), csem (cix b k h)) = _; rw [csem_cix]

/-- What every device knows of every cell: its invariant, and that its round is open. -/
def records (K : Dev nD × Fin 13 → ℕ) : sProp 𝕄 :=
  iprop((bigSep Finset.univ fun ck : Dev nD × Fin 13 => cellInv ER (ringRd m) (K ck) (kcell ck))
    ∗ bigSep Finset.univ fun ck : Dev nD × Fin 13 => reached ER (kcell ck) 0)
instance records_persistent (K : Dev nD × Fin 13 → ℕ) : BI.Persistent (records m K) := by unfold records; infer_instance

theorem inv_bar (K : Dev nD × Fin 13 → ℕ) (c : Dev nD) : records m K ⊢ cellInv ER (ringRd m) (K (c, 0)) (barCell c) := by
  unfold records
  exact sep_elim_left.trans (bigSep_elim (Φ := fun ck : Dev nD × Fin 13 => cellInv ER (ringRd m) (K ck) (kcell ck)) (Finset.mem_univ (c, (0 : Fin 13))))
theorem inv_xfer (K : Dev nD × Fin 13 → ℕ) (c : Dev nD) (b k : Bool) (h : Fin 3) :
    records m K ⊢ cellInv ER (ringRd m) (K (c, cix b k h)) (xCell c b k h) := by
  unfold records
  rw [← kcell_xfer]
  exact sep_elim_left.trans (bigSep_elim (Φ := fun ck : Dev nD × Fin 13 => cellInv ER (ringRd m) (K ck) (kcell ck)) (Finset.mem_univ (c, cix b k h)))
theorem reached_bar (K : Dev nD × Fin 13 → ℕ) (c : Dev nD) : records m K ⊢ reached ER (barCell c) 0 := by
  unfold records
  exact sep_elim_right.trans (bigSep_elim (Φ := fun ck : Dev nD × Fin 13 => reached ER (kcell ck) 0) (Finset.mem_univ (c, (0 : Fin 13))))
theorem reached_xfer (K : Dev nD × Fin 13 → ℕ) (c : Dev nD) (b k : Bool) (h : Fin 3) : records m K ⊢ reached ER (xCell c b k h) 0 := by
  unfold records
  rw [← kcell_xfer]
  exact sep_elim_right.trans (bigSep_elim (Φ := fun ck : Dev nD × Fin 13 => reached ER (kcell ck) 0) (Finset.mem_univ (c, cix b k h)))

end Cert.KernelIdealProof

end
-- ==== Proof.KI.Hops.lean ====
/- The hops of the two weight rings and the handshake before them, each from what it needs to what it leaves. -/
module

public import proofs.«01_k».proof.Proof.KI.Schedule

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- Device `c` runs `p` to `Q`. -/
abbrev WP (c : Dev nD) {α : Type} (p : KProg F α) (Q : α → sProp 𝕄) : sProp 𝕄 :=
  wp frame (wpE (defs₀ (F := F)) 𝒱₀ (c : Thread nD τ) none) Set.univ p Q

/-- A piece of a program is run by what is known of it. -/
theorem wp_use {c : Dev nD} {α β : Type} {p : KProg F α} {P : sProp 𝕄} {Q : α → sProp 𝕄} (h : P ⊢ WP c p Q)
    {k : α → KProg F β} {R : β → sProp 𝕄} : P ⊢ iprop((∀ x, Q x -∗ WP c (k x) R) -∗ WP c (p >>= k) R) := by
  simp only [WP, wp_bind]
  exact h.trans (wp_wand _ _ _)
/-- The same of a piece that ends the program. -/
theorem wp_last {c : Dev nD} {α : Type} {p : KProg F α} {P : sProp 𝕄} {Q : α → sProp 𝕄} (h : P ⊢ WP c p Q)
    {R : α → sProp 𝕄} : P ⊢ iprop((∀ x, Q x -∗ R x) -∗ WP c p R) :=
  h.trans (wp_wand _ _ _)

/-- Device `c` owes `O`, whatever it has waited for. -/
def owing (c : Dev nD) (O : CellTallies nD τ sig Unit) : sProp 𝕄 := iprop(∃ W, owes (c : Thread nD τ) O W)

variable (m : (ℓ : Loc nD τ sig) → Buf (Elt F) ℓ) (K : Dev nD × Fin 13 → ℕ)

/-- A slot owned, by the squeezed view the copies go through. -/
theorem slotP_eq (q : PosShare TreeShare) (c : Dev nD) (b : Bool) (i : Fin 4) (X : Vec F S1x1024x1024 .bf16) :
    (slotP q c b i X : sProp 𝕄) = iprop(∃ f, ⌜(rU b i).view.read (Elt F) f = X⌝ ∗ ((rS b i).view.loc (c : Thread nD τ) ↦[(rS b i).view.set]{q} f)) := by
  unfold slotP owns
  have h : (rS b i).view.set = (rU b i).view.set := View.set_reshape _ _
  rw [h]

/-- A slot owned, as two halves of it. -/
theorem slot_halves (c : Dev nD) (b : Bool) (i : Fin 4) (X : Vec F S1x1024x1024 .bf16) :
    (slotP fullShare c b i X : sProp 𝕄) ⊣⊢ iprop(slotP fullShare.left c b i X ∗ slotP fullShare.right c b i X) :=
  owns_halves (c : Thread nD τ) (rU b i) fullShare X

/-- What a copy of a slot leaves in a slot. -/
theorem read_copy (b : Bool) (i j : Fin 4) (f g) :
    (rU b j).view.read (Elt F) ((rS b j).view.write (Elt F) g ((rS b i).view.read (Elt F) f) Finset.univ) = (rU b i).view.read (Elt F) f := by
  show (rU b j).view.read (Elt F) (((rU b j).view.reshape _ _).write (Elt F) g ((rS b i).view.read (Elt F) f) Finset.univ) = _
  rw [View.write_reshape_univ, View.read_write_univ]
  funext x
  show (rU b i).view.read (Elt F) f (Shape.reshapeEquiv _ ((Shape.reshapeEquiv _).symm x)) = _
  rw [Equiv.apply_symm_apply]

theorem N_amount (b : Bool) (i : Fin 4) (q : DmaSem sig) : (rS b i).view.amount (.dma q) = N := N_eq b i

theorem wp_send_at (c n : Dev nD) (b : Bool) (h : Fin 3) (hn : n = peer b c) (sS sR : DmaSem sig) (hS : sS = xsem b false h) (hR : sR = xsem b true h)
    {hsc : (rS b (dstSlot b h) : Memref sig (Dev.tc n : Thread nD τ).2.kind .vmem S1024x1024 .bf16).view.ref.isScScratch = false}
    {hsrc : (rS b (srcSlot b h)).view.WordExact} {hdst : (rS b (dstSlot b h)).view.WordExact}
    {hsem : DmaTarget.Typed .vmem (.dma sR) (.remote (Dev.tc n : Thread nD τ) (rS b (dstSlot b h)) (.dma sS) hsc)}
    (l : List (Bool × Fin 3)) :
    iprop(records m K ∗ slotP fullShare c b (srcSlot b h) (wAt m b c (srcSlot b h)) ∗ landP (peer b c) b h
        ∗ owing c (oweL c ((b, h) :: l)) ∗ dutyTok ER (xCell c b false h) 0 false ∗ dutyTok ER (xCell (peer b c) b true h) 0 false)
      ⊢ WP c (Prog.lift (.enqueueDma (rS b (srcSlot b h)) (.remote (Dev.tc n : Thread nD τ) (rS b (dstSlot b h)) (.dma sS) hsc) (.dma sR) hsrc hdst hsem))
          (fun _ => iprop(slotP fullShare.right c b (srcSlot b h) (wAt m b c (srcSlot b h)) ∗ cred (tallyAt (xCell c b false h) () N) ∗ owing c (oweL c l))) := by
  subst hn hS hR
  iintro ⟨#HR, Hs, Hd, Ho, Ht1, Ht2⟩
  ihave Hs2 := (slot_halves c b (srcSlot b h) (wAt m b c (srcSlot b h))).1 $$ Hs
  icases Hs2 with ⟨Hl, Hr⟩
  ihave Hl := (Entails.of_eq (slotP_eq fullShare.left c b (srcSlot b h) (wAt m b c (srcSlot b h)))) $$ Hl
  icases Hl with ⟨%fs, %hfs, Hl⟩
  unfold landP
  icases Hd with ⟨%X, Hd⟩
  ihave Hd := (Entails.of_eq (slotP_eq fullShare (peer b c) b (dstSlot b h) X)) $$ Hd
  icases Hd with ⟨%fd, %hfd, Hd⟩
  unfold owing
  icases Ho with ⟨%W, Ho⟩
  unfold Prog.lift
  iapply (Rounds.wp_send_pointsTo 𝒱₀ ER (ringRd m) (c : Thread nD τ) none (κ₁ := K (c, cix b false h)) (κ₂ := K (peer b c, cix b true h))
    (r₁ := 0) (r₂ := 0) (d₁ := false) (d₂ := false) (fs := fs) (fd := fd)
    (by rw [duties_xfer]; exact Finset.mem_singleton_self _) (by rw [duties_xfer]; exact Finset.mem_singleton_self _)
    () () N (N_amount b (dstSlot b h) (xsem b true h)) (amount_xfer m c b false h false) (amount_xfer m (peer b c) b true h false) (oweL c l) rfl (W := W)
    (by rw [payload_xfer]; show _ ⊢ slotP fullShare.left c b (srcSlot b h) (wAt m b c (srcSlot b h)); rw [slotP_eq]; iintro H; iexists fs; isplitr; · (ipureintro; exact hfs)
        iexact H)
    (by rw [payload_xfer]; show _ ⊢ slotP fullShare (peer b c) b (dstSlot b h) (wAt m b (peer b c) (dstSlot b h)); rw [slotP_eq]; iintro H; iexists _; isplitr
        rotate_left
        · iexact H
        · ipureintro; rw [read_copy, hfs]; unfold wAt; rw [rot_hop]))
    $$ [Hl Hd Ho Ht1 Ht2]
  · isplitr; · iapply (inv_xfer m K c b false h); iexact HR
    isplitr; · iapply (inv_xfer m K (peer b c) b true h); iexact HR
    isplitl [Hl]; · iexact Hl
    isplitl [Hd]; · iexact Hd
    isplitl [Ho]; · iexact Ho
    isplitl [Ht1]; · iexact Ht1
    isplitr; · iapply (reached_xfer m K c b false h); iexact HR
    isplitl [Ht2]; · iexact Ht2
    iapply (reached_xfer m K (peer b c) b true h); iexact HR
  iintro ⟨Hc, Ho⟩
  rw [wp_ret]; imodintro
  isplitl [Hr]; · iexact Hr
  isplitl [Hc]; · iexact Hc
  iexists W; iexact Ho

/-- A hop's copy is started: half of its slot is lent, the arrival is paid for. -/
theorem wp_send (c : Dev nD) (b : Bool) (h : Fin 3) (l : List (Bool × Fin 3)) :
    iprop(records m K ∗ slotP fullShare c b (srcSlot b h) (wAt m b c (srcSlot b h)) ∗ landP (peer b c) b h
        ∗ owing c (oweL c ((b, h) :: l)) ∗ dutyTok ER (xCell c b false h) 0 false ∗ dutyTok ER (xCell (peer b c) b true h) 0 false)
      ⊢ WP c (send c b h)
          (fun _ => iprop(slotP fullShare.right c b (srcSlot b h) (wAt m b c (srcSlot b h)) ∗ cred (tallyAt (xCell c b false h) () N) ∗ owing c (oweL c l))) :=
  wp_send_at m K c _ b h (peerOf_eq c b h) _ _ (sem3_send b h) (sem3_recv b h) l

/-- A wait on one of a hop's two semaphores: what it hands over, the semaphore at rest. -/
theorem wp_wait_at (c : Dev nD) (b k : Bool) (h : Fin 3) (q : DmaSem sig) (hq : q = xsem b k h) (i j : Fin 4) (O : CellTallies nD τ sig Unit)
    {hsrc : (rS b i).view.WordExact} {hdst : (rS b j).view.WordExact} :
    iprop(records m K ∗ cred (tallyAt (xCell c b k h) () N) ∗ owing c O ∗ MayWait (c : Thread nD τ) (.dma (xsem b k h)) () O ∗ atPos ER (xCell c b k h) 0 ∅ 0)
      ⊢ WP c (Prog.lift (.waitDma2 q (rS b i) (rS b j) hsrc hdst)) (fun _ => iprop(owing c O ∗ semVal (xCell c b k h) 0 ∗ xferPay m c (some (b, k, h)))) := by
  subst hq
  iintro ⟨#HR, Hc, Ho, HM, Hat⟩
  unfold owing
  icases Ho with ⟨%W, Ho⟩
  unfold Prog.lift
  iapply (Rounds.wp_wait_rest_token 𝒱₀ ER (ringRd m) (c : Thread nD τ) none (κ := K (c, cix b k h))
      (wpE_waitDma2_eq 𝒱₀ (c : Thread nD τ) none Set.univ) (Set.mem_univ _) () (O := O) (W := W) (R := 0) (m := 0) (T := ∅)
      (by rw [Nat.zero_add, N_eq, expect_xfer])) $$ [Hc Ho HM Hat]
  · isplitr; · iapply (inv_xfer m K c b k h); iexact HR
    isplitl [Hc]; · iexact Hc
    isplitl [Ho]; · iexact Ho
    isplitl [HM]; · iexact HM
    iexact Hat
  iintro ⟨Ho, Hat, -, Hpay⟩
  ihave Hpay := (Entails.of_eq (rest_xfer m c b k h)) $$ Hpay
  imod (Rounds.cell_close ER (ringRd m) (Set.mem_univ (K (c, cix b k h))) (fun h => h) (R := 0 + 1) (duties_later m (xCell c b k h))) $$ [Hat] with Hz
  · isplitr; · iapply (inv_xfer m K c b k h); iexact HR
    iexact Hat
  rw [wp_ret]; imodintro
  isplitl [Ho]; · iexists _; iexact Ho
  isplitl [Hz]; · iexact Hz
  iexact Hpay

/-- A hop is waited for: the lent half is back, the neighbour's block has arrived, both semaphores are at rest. -/
theorem wp_recv (c : Dev nD) (b : Bool) (h : Fin 3) (l : List (Bool × Fin 3)) (hl : ∀ x ∈ l, h < x.2) :
    iprop(records m K ∗ levAts L lv ∗ slotP fullShare.right c b (srcSlot b h) (wAt m b c (srcSlot b h)) ∗ owing c (oweL c l)
        ∗ cred (tallyAt (xCell c b false h) () N) ∗ cred (tallyAt (xCell c b true h) () N)
        ∗ atPos ER (xCell c b false h) 0 ∅ 0 ∗ atPos ER (xCell c b true h) 0 ∅ 0)
      ⊢ WP c (recv b h) (fun _ => iprop(slotP fullShare c b (srcSlot b h) (wAt m b c (srcSlot b h)) ∗ slotP fullShare c b (dstSlot b h) (wAt m b c (dstSlot b h))
          ∗ owing c (oweL c l) ∗ semVal (xCell c b false h) 0 ∗ semVal (xCell c b true h) 0)) := by
  iintro ⟨#HR, #Hlev, Hr, Ho, Hc1, Hc2, Ha1, Ha2⟩
  unfold recv
  iapply (wp_use (wp_wait_at m K c b false h _ (sem3_send b h) (dstSlot b h) (srcSlot b h) (oweL c l))) $$ [Hc1 Ho Ha1]
  · isplitr; · iexact HR
    isplitl [Hc1]; · iexact Hc1
    isplitl [Ho]; · iexact Ho
    isplitr
    · iapply (mayWait_hops (F := F) c (.dma (xsem b false h)) l (fun x hx => by rw [lvS_send]; omega)); iexact Hlev
    iexact Ha1
  iintro %_ ⟨Ho, Hz1, Hl⟩
  iapply (wp_last (wp_wait_at m K c b true h _ (sem3_recv b h) (srcSlot b h) (dstSlot b h) (oweL c l))) $$ [Hc2 Ho Ha2]
  · isplitr; · iexact HR
    isplitl [Hc2]; · iexact Hc2
    isplitl [Ho]; · iexact Ho
    isplitr
    · iapply (mayWait_hops (F := F) c (.dma (xsem b true h)) l (fun x hx => by rw [lvS_recv]; have := Fin.lt_def.mp (hl x hx); omega)); iexact Hlev
    iexact Ha2
  iintro %_ ⟨Ho, Hz2, Hd⟩
  unfold xferPay
  isplitl [Hl Hr]
  · iapply (slot_halves c b (srcSlot b h) (wAt m b c (srcSlot b h))).2
    isplitl [Hl] <;> iassumption
  isplitl [Hd]; · iexact Hd
  isplitl [Ho]; · iexact Ho
  isplitl [Hz1] <;> iassumption

theorem wp_handshake_at (c d1 d2 : Dev nD) (h1 : d1 = prv c) (h2 : d2 = nxt c) :
    iprop(records m K ∗ levAts L lv ∗ landsP c false ∗ landsP c true ∗ owing c (O₀ c) ∗ cred (tallyAt (barCell c) () 2)
        ∗ atPos ER (barCell c) 0 ∅ 0 ∗ dutyTok ER (barCell (prv c)) 0 true ∗ dutyTok ER (barCell (nxt c)) 0 false)
      ⊢ WP c (do semSignalWord d1 barS 1#32; semSignalWord d2 barS 1#32; semWaitWord barS 2#32)
          (fun _ => iprop(landsP (nxt c) false ∗ landsP (prv c) true ∗ owing c (oweL c hops) ∗ semVal (barCell c) 0)) := by
  subst h1 h2
  simp only [semSignalWord, semWaitWord, Prog.lift, Prog.bind_op, Prog.bind_ret, Prog.pure_eq_ret, Prog.bind_assoc]
  iintro ⟨#HR, #Hlev, Hf, Ht, Ho, Hc, Hat, Ht1, Ht2⟩
  unfold owing
  icases Ho with ⟨%W, HO⟩
  unfold O₀
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl)
    $$ [HO Ht1 Hf]
  · isplitr; · iapply (inv_bar m K (prv c)); iexact HR
    isplitl [HO]; · iexact HO
    isplitl [Ht1]; · iexact Ht1
    isplitl [Hf]
    · rw [payload_bar, show peer (!true) (prv c) = c from nxt_prv c]; iexact Hf
    · iapply (reached_bar m K (prv c)); iexact HR
  iintro HO
  unfold O₁
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (oweL c hops) rfl)
    $$ [HO Ht2 Ht]
  · isplitr; · iapply (inv_bar m K (nxt c)); iexact HR
    isplitl [HO]; · iexact HO
    isplitl [Ht2]; · iexact Ht2
    isplitl [Ht]
    · rw [payload_bar, show peer (!false) (nxt c) = c from prv_nxt c]; iexact Ht
    · iapply (reached_bar m K (nxt c)); iexact HR
  iintro HO
  iapply (Rounds.wp_wait_rest_token 𝒱₀ ER (ringRd m) (c : Thread nD τ) none (κ := K (c, 0))
      (wpE_semWait_eq 𝒱₀ (c : Thread nD τ) none Set.univ) (Set.mem_univ _) () (O := oweL c hops) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_hops (F := F) c (.reg barS) hops (fun x _ => by rw [lvS_bar]; omega)); iexact Hlev
    iexact Hat
  iintro ⟨HO, Hat, -, Hpay⟩
  ihave Hp := (Entails.of_eq (rest_bar m c)) $$ Hpay
  icases Hp with ⟨HA, HB⟩
  imod (Rounds.cell_close ER (ringRd m) (Set.mem_univ (K (c, 0))) (fun h => h) (R := 0 + 1) (duties_later m (barCell c))) $$ [Hat] with Hz
  · isplitr; · iapply (inv_bar m K c); iexact HR
    iexact Hat
  rw [wp_ret]; imodintro
  isplitl [HA]; · iexact HA
  isplitl [HB]; · iexact HB
  isplitl [HO]; · iexists _; iexact HO
  iexact Hz

/-- The handshake: each neighbour is handed the slots it will write to, and hands over the ones it will be written to in. -/
theorem wp_handshake (c : Dev nD) :
    iprop(records m K ∗ levAts L lv ∗ landsP c false ∗ landsP c true ∗ owing c (O₀ c) ∗ cred (tallyAt (barCell c) () 2)
        ∗ atPos ER (barCell c) 0 ∅ 0 ∗ dutyTok ER (barCell (prv c)) 0 true ∗ dutyTok ER (barCell (nxt c)) 0 false)
      ⊢ WP c (handshake c)
          (fun _ => iprop(landsP (nxt c) false ∗ landsP (prv c) true ∗ owing c (oweL c hops) ∗ semVal (barCell c) 0)) :=
  wp_handshake_at m K c _ _ (Fin.ext (k0_dev1_eq c)) (Fin.ext (k0_dev2_eq c))

end Cert.KernelIdealProof

end
-- ==== Proof.KI.Values.lean ====
/- What the body's buffers hold, as functions of the launch memory. -/
module

public import proofs.«01_k».proof.Proof.KI.Schedule
public import Idealize.ShloMosaic.Lib.ValueIdxCore
public import Idealize.ShloMosaic.Lib.ValueLayout
public import Idealize.ShloMosaic.Lib.VecWindow
public import Idealize.ShloMosaic.Lib.Pipeline.Value
public import Idealize.ShloMosaic.Lib.Pipeline.ValueKit.Geometry

@[expose] public section

noncomputable section

namespace Cert.KernelIdealProof

open Cert.KernelIdeal Cert.KernelIdeal.Gen
open Idealize.ShloMosaic Idealize.ShloMosaic.TcCoe

variable {F : FTy → Type} [FloatOps F] [Named F]

variable (m : (ℓ : Loc nD τ sig) → Buf (Elt F) ℓ)

/-- The staged block of x. -/
def xStg (c : Dev nD) : Vec F S2048x1024 .bf16 := (win0_0.blk (0 : Fin 1)).view.read (Elt F) (m ((c : Thread nD τ).loc main_arg0))
/-- K (`false`) or V (`true`) at launch. -/
def hX (b : Bool) (c : Dev nD) : Vec F S4x8x4x64x32x128 .f32 :=
  match b with
  | false => m ((c : Thread nD τ).loc main_arg2)
  | true => m ((c : Thread nD τ).loc main_arg3)

/-- Where the copy of (slot `s`, class `r`) of K and V reads. -/
abbrev hR (c : Dev nD) (s r : Fin 4) : Rect S4x8x4x64x32x128 :=
  Rect.unit (s := S4x8x4x64x32x128) (koff c s r) S1x8x1x64x8x128.size (koff_inb c s r)

theorem numel_g : S8x64x8x128.numel = S1x8x64x8x128.numel := by decide
theorem numel_h : S8x64x8x128.numel = S1x8x1x64x8x128.numel := by decide

/-- The block of K or V that the copy of (slot `s`, class `r`) stages. -/
def kvVal (b : Bool) (c : Dev nD) (s r : Fin 4) : Vec F S1x8x64x8x128 .f32 :=
  fun x => hX m b c ((hR c s r).emb (Shape.reshapeEquiv numel_h ((Shape.reshapeEquiv numel_g).symm x)))

/-- The eight heads' contexts side by side. -/
def ctxOf (q : FVec F S512x1024 .bf16) (k v : FVec F S8x64x8x128 .bf16) : Vec F S512x1024 .bf16 :=
  fun i => headOf (⟨(i 1).val / 128, by have := (i 1).isLt; show (i 1).val / 128 < 8; change (i 1).val < 1024 at this; omega⟩ : Fin 8) q k v
    (ValueIdx.ix2 (i 0) (⟨(i 1).val % 128, Nat.mod_lt _ (by decide)⟩ : Fin 128))

/-- The queries of slot `s` on device `c`. -/
def qgAt (c : Dev nD) (s : Fin 4) : FVec F S8x4x64x1024 .bf16 := qgOf (xStg m c) (wAt m false c s)
/-- The staged and rounded block of K or V. -/
def kvAt (b : Bool) (c : Dev nD) (s r : Fin 4) : FVec F S8x64x8x128 .bf16 := kbOf (kvVal m b c s r)
/-- The context of (slot `s`, class `r`) on device `c`. -/
def ctxAt (c : Dev nD) (s r : Fin 4) : Vec F S512x1024 .bf16 :=
  ctxOf (qrOf r (qgAt m c s)) (kvAt m false c s r) (kvAt m true c s r)
/-- The kept contexts of slot `s`. -/
def keptAt (c : Dev nD) (s : Fin 4) : Vec F S4x512x1024 .bf16 := fun i => ctxAt m c s (i 0) (ValueIdx.ix2 (i 1) (i 2))

/-- The result block after (slot `s`, class `r`)'s share. -/
def outStep (c : Dev nD) (s : Fin 4) (o : Vec F S8x4x64x1024 .f32) (r : Fin 4) : Vec F S8x4x64x1024 .f32 :=
  (oR r).overlay o (accOf (ctxAt m c s r) (wAt m true c s) (fun j => o ((oR r).emb j)))
/-- The result block after a slot's four classes. -/
def outSlot (c : Dev nD) (o : Vec F S8x4x64x1024 .f32) (s : Fin 4) : Vec F S8x4x64x1024 .f32 :=
  outStep m c s (outStep m c s (outStep m c s (outStep m c s o 0) 1) 2) 3
def outZero : Vec F S8x4x64x1024 .f32 := broadcast S8x4x64x1024 (Scalar.ofBits .f32 0x00000000#32 : F .f32)
/-- The result block. -/
def outAt (c : Dev nD) : Vec F S8x4x64x1024 .f32 :=
  outSlot m c (outSlot m c (outSlot m c (outSlot m c outZero 0) 2) 3) 1

/-! ## The heads' places -/

theorem cR_val (h : Fin 8) (x : S512x128.Idx) (a : Fin 2) : ((cR h).emb x a).val = (![0, 128 * h.val] : Fin 2 → Nat) a + (x a).val :=
  ValueKit.rect_emb_unit_val (s := S512x1024) _ _ (inb_c h) x a
theorem fR_val (r : Fin 4) (h : Fin 8) (x : S1x512x128.Idx) (a : Fin 3) :
    ((fR r h).emb x a).val = (![r.val, 0, 128 * h.val] : Fin 3 → Nat) a + (x a).val :=
  ValueKit.rect_emb_unit_val (s := S4x512x1024) _ _ (inb_f r h) x a
theorem fR'_val (r : Fin 4) (x : S1x512x1024.Idx) (a : Fin 3) : ((fR' r).emb x a).val = (![r.val, 0, 0] : Fin 3 → Nat) a + (x a).val :=
  ValueKit.rect_emb_unit_val (s := S4x512x1024) _ _ (inb_f' r) x a

open ValueIdx Pipeline in
theorem ctxOf_emb (q : FVec F S512x1024 .bf16) (k v : FVec F S8x64x8x128 .bf16) (h : Fin 8) (x : S512x128.Idx) :
    ctxOf q k v ((cR h).emb x) = headOf h q k v x := by
  have h0 : ((cR h).emb x 0).val = (x 0).val := (cR_val h x 0).trans (Nat.zero_add _)
  have h1 : ((cR h).emb x 1).val = 128 * h.val + (x 1).val := cR_val h x 1
  have hx : (x 1).val < 128 := (x 1).isLt
  unfold ctxOf
  have e : (⟨((cR h).emb x 1).val / 128, by rw [h1]; have := h.isLt; omega⟩ : Fin 8) = h := Fin.ext (by show ((cR h).emb x 1).val / 128 = h.val; rw [h1]; omega)
  have e' : ix2 ((cR h).emb x 0) (⟨((cR h).emb x 1).val % 128, Nat.mod_lt _ (by decide)⟩ : Fin 128) = x :=
    Shape.idx_ext₂ h0 (by show ((cR h).emb x 1).val % 128 = _; rw [h1]; omega)
  exact congr (congrArg (fun h => headOf h q k v) e) e'

open ValueIdx Pipeline in
theorem keptAt_emb (c : Dev nD) (s r : Fin 4) (h : Fin 8) (x : S1x512x128.Idx) :
    keptAt m c s ((fR r h).emb x)
      = (shapeCast S1x512x128 (headOf h (qrOf r (qgAt m c s)) (kvAt m false c s r) (kvAt m true c s r)) shapeCasts_S512x128_S1x512x128 : FVec F S1x512x128 .bf16) x := by
  have hx : (x 0).val = 0 := Nat.lt_one_iff.mp (x 0).isLt
  have h0 : (fR r h).emb x 0 = r := Fin.ext ((fR_val r h x 0).trans (by show r.val + (x 0).val = r.val; rw [hx]; rfl))
  have h1 : ((fR r h).emb x 1).val = (x 1).val := (fR_val r h x 1).trans (Nat.zero_add _)
  have h2 : ((fR r h).emb x 2).val = 128 * h.val + (x 2).val := fR_val r h x 2
  rw [show (shapeCast S1x512x128 (headOf h (qrOf r (qgAt m c s)) (kvAt m false c s r) (kvAt m true c s r)) shapeCasts_S512x128_S1x512x128 : FVec F S1x512x128 .bf16) x
    = headOf h (qrOf r (qgAt m c s)) (kvAt m false c s r) (kvAt m true c s r) (ix2 (x 1) (x 2)) from
      (congrArg _ (eq_ix3 x)).trans (shapeCast_ab_1ab_apply _ _ (x 0) (x 1) (x 2)), ← ctxOf_emb]
  unfold keptAt ctxAt
  rw [h0]
  refine congrArg _ (Shape.idx_ext₂ ?_ ?_)
  · exact h1.trans ((cR_val h (ix2 (x 1) (x 2)) 0).trans (Nat.zero_add _)).symm
  · exact h2.trans (cR_val h (ix2 (x 1) (x 2)) 1).symm

open ValueIdx Pipeline in
theorem keptAt_emb' (c : Dev nD) (s r : Fin 4) (y : S1x512x1024.Idx) :
    keptAt m c s ((fR' r).emb y) = ctxAt m c s r (ix2 (y 1) (y 2)) := by
  have hy : (y 0).val = 0 := Nat.lt_one_iff.mp (y 0).isLt
  have h0 : (fR' r).emb y 0 = r := Fin.ext ((fR'_val r y 0).trans (by show r.val + (y 0).val = r.val; rw [hy]; rfl))
  unfold keptAt
  rw [h0]
  exact congrArg _ (Shape.idx_ext₂ ((fR'_val r y 1).trans (Nat.zero_add _)) ((fR'_val r y 2).trans (Nat.zero_add _)))

open ValueIdx Pipeline in
/-- The kept context of class `r`, loaded. -/
theorem keptAt_load (c : Dev nD) (s r : Fin 4) :
    (shapeCast S512x1024 (fun j => keptAt m c s ((fR' r).emb j) : Vec F S1x512x1024 .bf16) shapeCasts_S1x512x1024_S512x1024 : FVec F S512x1024 .bf16)
      = ctxAt m c s r := by
  funext i
  refine (congrArg _ (eq_ix2 i)).trans ((shapeCast_1ab_ab_apply _ _ (i 0) (i 1)).trans ((keptAt_emb' m c s r _).trans ?_))
  exact congrArg _ (eq_ix2 i).symm

end Cert.KernelIdealProof

end
-- ==== Proof.KI.Local.lean ====
/- The body's own loads, stores and staged copies, and the attention steps made of them. -/
module

public import proofs.«01_k».proof.Proof.KI.Hops
public import proofs.«01_k».proof.Proof.KI.Values

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads and stores of a memref owned -/

section Access
variable (c : Dev nD) {cs : CoreSpace} {sh : Shape} {e : EltTy} (M : Memref sig .tc cs sh e)

theorem wp_ld_slice (r : Rect sh) (hr : ∀ a, r.stride a = 1) (hl : M.view.LoadsAt r.toLoadRect) (q : PosShare TreeShare) (X : r.shape.Idx → Elt F e) :
    (owns (c : Thread nD τ) (M.slice r hr) q X : sProp 𝕄)
      ⊢ WP c (Prog.lift (.load M r.toLoadRect hl)) (fun v => iprop(⌜v = X⌝ ∗ owns (c : Thread nD τ) (M.slice r hr) q X)) := by
  refine (show (owns (c : Thread nD τ) (M.slice r hr) q X : sProp 𝕄)
    ⊢ iprop(∃ f, ⌜(M.access r).read (Elt F) f = X⌝ ∗ ((M.access r).loc (c : Thread nD τ) ↦[(M.access r).set]{q} f)) from .rfl).trans ?_
  iintro ⟨%f, %hf, H⟩
  unfold Prog.lift
  iapply (wp_load_rect 𝒱₀ (c : Thread nD τ) none Set.univ (subset_refl _)) $$ H
  iintro H
  rw [wp_ret]; imodintro
  isplitr; · ipureintro; exact hf
  iapply (show iprop(∃ f, ⌜(M.access r).read (Elt F) f = X⌝ ∗ ((M.access r).loc (c : Thread nD τ) ↦[(M.access r).set]{q} f))
    ⊢ (owns (c : Thread nD τ) (M.slice r hr) q X : sProp 𝕄) from .rfl)
  iexists f
  isplitr; · ipureintro; exact hf
  iexact H

theorem wp_ld (r : Rect sh) (hl : M.view.LoadsAt r.toLoadRect) (q : PosShare TreeShare) (X : sh.Idx → Elt F e) :
    (owns (c : Thread nD τ) M q X : sProp 𝕄)
      ⊢ WP c (Prog.lift (.load M r.toLoadRect hl)) (fun v => iprop(⌜v = fun j => X (r.emb j)⌝ ∗ owns (c : Thread nD τ) M q X)) := by
  unfold owns
  iintro ⟨%f, %hf, H⟩
  unfold Prog.lift
  ihave H := (show (M.view.loc (c : Thread nD τ) ↦[M.view.set]{q} f : sProp 𝕄) ⊢ ((M.access r).loc (c : Thread nD τ) ↦[M.view.set]{q} f) from .rfl) $$ H
  iapply (wp_load_rect 𝒱₀ (c : Thread nD τ) none Set.univ (S := M.view.set) (View.set_slice_subset M.view r)) $$ H
  iintro H
  rw [wp_ret]; imodintro
  isplitr; · ipureintro; subst hf; rfl
  iexists f
  isplitr; · ipureintro; exact hf
  iexact H

theorem wp_st_slice (r : Rect sh) (hr : ∀ a, r.stride a = 1) (w X : r.shape.Idx → Elt F e) (hx : (M.access r).Stores Finset.univ)
    (hm : (Finset.univ : Finset r.shape.Idx) = Finset.univ ∨ ∀ a, r.stride a = 1) :
    (owns (c : Thread nD τ) (M.slice r hr) fullShare X : sProp 𝕄)
      ⊢ WP c (Prog.lift (.store M r w Finset.univ hx hm)) (fun _ => owns (c : Thread nD τ) (M.slice r hr) fullShare w) := by
  refine (show (owns (c : Thread nD τ) (M.slice r hr) fullShare X : sProp 𝕄)
    ⊢ iprop(∃ f, ⌜(M.access r).read (Elt F) f = X⌝ ∗ ((M.access r).loc (c : Thread nD τ) ↦[(M.access r).set]{fullShare} f)) from .rfl).trans ?_
  iintro ⟨%f, %hf, H⟩
  unfold Prog.lift
  iapply (wp_store 𝒱₀ (c : Thread nD τ) none Set.univ (S := (M.access r).set) (subset_refl _)) $$ H
  iintro H
  rw [wp_ret]; imodintro
  iapply (show iprop(∃ f, ⌜(M.access r).read (Elt F) f = w⌝ ∗ ((M.access r).loc (c : Thread nD τ) ↦[(M.access r).set]{fullShare} f))
    ⊢ (owns (c : Thread nD τ) (M.slice r hr) fullShare w : sProp 𝕄) from .rfl)
  iexists _
  isplitr; rotate_left
  · iexact H
  · ipureintro; exact View.read_write_univ _ _

theorem wp_st (r : Rect sh) (w : r.shape.Idx → Elt F e) (X : sh.Idx → Elt F e) (hx : (M.access r).Stores Finset.univ)
    (hm : (Finset.univ : Finset r.shape.Idx) = Finset.univ ∨ ∀ a, r.stride a = 1) :
    (owns (c : Thread nD τ) M fullShare X : sProp 𝕄)
      ⊢ WP c (Prog.lift (.store M r w Finset.univ hx hm)) (fun _ => owns (c : Thread nD τ) M fullShare (r.overlay X w)) := by
  unfold owns
  iintro ⟨%f, %hf, H⟩
  unfold Prog.lift
  ihave H := (show (M.view.loc (c : Thread nD τ) ↦[M.view.set]{fullShare} f : sProp 𝕄) ⊢ ((M.access r).loc (c : Thread nD τ) ↦[M.view.set]{fullShare} f) from .rfl) $$ H
  iapply (wp_store 𝒱₀ (c : Thread nD τ) none Set.univ (S := M.view.set) (View.set_slice_subset M.view r)) $$ H
  iintro H
  rw [wp_ret]; imodintro
  iexists _
  isplitr; rotate_left
  · iexact H
  · ipureintro
    subst hf
    funext j
    by_cases hj : j ∈ Finset.univ.map r.emb
    · obtain ⟨x, -, rfl⟩ := Finset.mem_map.mp hj
      rw [Rect.overlay_emb]
      exact View.read_slice_write_emb r f w (Finset.mem_univ x)
    · rw [View.read_slice_write_of_not_mem r f w _ hj, Rect.overlay_of_not_mem _ _ _ (by rwa [Rect.map_emb_univ] at hj)]

/-- `M` owned, its contents known to be `G` where `P` says so. -/
def known (G : sh.Idx → Elt F e) (P : sh.Idx → Prop) : sProp 𝕄 :=
  iprop(∃ X, ⌜∀ i, P i → X i = G i⌝ ∗ owns (c : Thread nD τ) M fullShare X)

/-- A load whose value is not used, then a store: what is known grows by the rectangle stored to. -/
theorem wp_grow (G : sh.Idx → Elt F e) (P P' : sh.Idx → Prop) (r : Rect sh) (hl : M.view.LoadsAt r.toLoadRect) (w : r.shape.Idx → Elt F e)
    (hx : (M.access r).Stores Finset.univ) (hm : (Finset.univ : Finset r.shape.Idx) = Finset.univ ∨ ∀ a, r.stride a = 1)
    (hw : ∀ x, w x = G (r.emb x)) (hP : ∀ i, P' i → i ∉ r.set → P i) :
    known c M G P ⊢ WP c (Prog.lift (.load M r.toLoadRect hl) >>= fun _ => Prog.lift (.store M r w Finset.univ hx hm)) (fun _ => known c M G P') := by
  unfold known
  iintro ⟨%X, %hX, H⟩
  iapply (wp_use (wp_ld c M r hl fullShare X)) $$ H
  iintro %_ ⟨-, H⟩
  iapply (wp_last (wp_st c M r w X hx hm)) $$ H
  iintro %_ H
  iexists _
  isplitr; rotate_left
  · iexact H
  · ipureintro
    intro i hi
    by_cases hj : i ∈ Finset.univ.map r.emb
    · obtain ⟨x, -, rfl⟩ := Finset.mem_map.mp hj
      rw [Rect.overlay_emb, hw]
    · rw [Rect.map_emb_univ] at hj
      rw [Rect.overlay_of_not_mem _ _ _ hj]
      exact hX i (hP i hi hj)

end Access

/-! ## The staged copies of K and V -/

/-- What a staged copy adds to its semaphore. -/
abbrev NG : ℕ := (gS false 0).view.dmaCredit
theorem NG_pos : 0 < NG := View.dmaCredit_pos _ (by decide)
theorem NG_eq (b : Bool) (i : Fin 2) : (gS b i).view.dmaCredit = NG := by cases b <;> rfl
theorem NG_amount (b : Bool) (i : Fin 2) (q : DmaSem sig) : (gS b i).view.amount (.dma q) = NG := NG_eq b i

variable (m : (ℓ : Loc nD τ sig) → Buf (Elt F) ℓ)

/-- K or V on device `c`, at launch contents. -/
def homeP (c : Dev nD) (b : Bool) : sProp 𝕄 := owns (c : Thread nD τ) (hM b) fullShare (hX m b c)
/-- A stage of K or V holding `X`. -/
def stageP (c : Dev nD) (b : Bool) (i : Fin 2) (X : Vec F S1x8x64x8x128 .f32) : sProp 𝕄 := owns (c : Thread nD τ) (gU b i) fullShare X
abbrev gCell (c : Dev nD) (b : Bool) (i : Fin 2) : GSem nD τ sig := ((c : Thread nD τ), .dma (gsem b i))
/-- A stage no copy is under way to. -/
def freeP (c : Dev nD) (b : Bool) (i : Fin 2) : sProp 𝕄 := iprop((∃ X, stageP c b i X) ∗ semVal (gCell c b i) 0)
/-- The copy of (slot `s`, class `r`) of K or V under way. -/
def flyP (c : Dev nD) (b : Bool) (s r : Fin 4) : sProp 𝕄 :=
  iprop(∃ f, ⌜(hM b).view.read (Elt F) f = hX m b c⌝
    ∗ Transfers.Flight EC (c : Thread nD τ) (.dma (gsem b (par r))) () NG
        iprop(stageP c b (par r) (kvVal m b c s r) ∗ ((hM b).view.loc (c : Thread nD τ) ↦[(hS b c s r).view.set]{fullShare} f))
    ∗ ((hM b).view.loc (c : Thread nD τ) ↦[(hM b).view.set \ (hS b c s r).view.set]{fullShare} f))

theorem hS_sub (b : Bool) (c : Dev nD) (s r : Fin 4) : (hS b c s r).view.set ⊆ (hM b).view.set := by
  have h : (hS b c s r).view.set = ((hM b).view.slice (hR c s r)).set := View.set_reshape _ _
  rw [h]; exact View.set_slice_subset _ _

theorem stageP_eq (c : Dev nD) (b : Bool) (i : Fin 2) (X : Vec F S1x8x64x8x128 .f32) :
    (stageP c b i X : sProp 𝕄) = iprop(∃ f, ⌜(gU b i).view.read (Elt F) f = X⌝ ∗ ((gS b i).view.loc (c : Thread nD τ) ↦[(gS b i).view.set]{fullShare} f)) := by
  unfold stageP owns
  have h : (gS b i).view.set = (gU b i).view.set := View.set_reshape _ _
  rw [h]

/-- What a staged copy leaves in its stage. -/
theorem read_stage (b : Bool) (c : Dev nD) (s r : Fin 4) (f g) (hf : (hM b).view.read (Elt F) f = hX m b c) :
    (gU b (par r)).view.read (Elt F) ((gS b (par r)).view.write (Elt F) g ((hS b c s r).view.read (Elt F) f) Finset.univ) = kvVal m b c s r := by
  show (gU b (par r)).view.read (Elt F) (((gU b (par r)).view.reshape _ _).write (Elt F) g ((hS b c s r).view.read (Elt F) f) Finset.univ) = _
  rw [View.write_reshape_univ, View.read_write_univ]
  funext x
  show (hM b).view.read (Elt F) f _ = _
  rw [hf]
  rfl

theorem wp_issue_at (c : Dev nD) (b : Bool) (s r : Fin 4) (q : DmaSem sig) (hq : q = gsem b (par r)) {hsrc : (hS b c s r).view.WordExact}
    {hdst : (gS b (par r)).view.WordExact} {hsem : (DmaTarget.here (gS b (par r)) : DmaTarget nD τ sig (.tc : Proc τ) .vmem S8x64x8x128 .f32).Typed .hbm (.dma q)} :
    iprop(homeP m c b ∗ freeP c b (par r))
      ⊢ WP c (Prog.lift (.enqueueDma (hS b c s r) (.here (gS b (par r))) (.dma q) hsrc hdst hsem)) (fun _ => flyP m c b s r) := by
  subst hq
  unfold homeP freeP owns
  iintro ⟨⟨%f, %hf, Hh⟩, ⟨%X, Hs⟩, Hv⟩
  ihave Hs := (Entails.of_eq (stageP_eq c b (par r) X)) $$ Hs
  icases Hs with ⟨%g, %hg, Hs⟩
  ihave Hh := (pointsTo_split_subset (hS_sub b c s r)).1 $$ Hh
  icases Hh with ⟨Hh, Hrest⟩
  unfold Prog.lift
  iapply (Transfers.wp_dmaLocal EC 𝒱₀ (c : Thread nD τ) none () NG (NG_amount b (par r) _) NG_pos (subset_refl _)) $$ [Hh Hs Hv]
  · isplitl [Hh]; · iexact Hh
    isplitl [Hs]; · iexact Hs
    iexact Hv
  iintro HF
  rw [wp_ret]; imodintro
  unfold flyP
  iexists f
  isplitr; · ipureintro; exact hf
  isplitl [HF]
  · iapply (Transfers.Flight_mono EC (c : Thread nD τ) ?_) $$ HF
    iintro ⟨Hd, Hh⟩
    isplitl [Hd]
    · rw [stageP_eq]
      iexists _
      isplitr; rotate_left
      · iexact Hd
      · ipureintro; exact read_stage m b c s r f g hf
    iexact Hh
  iexact Hrest

theorem wp_issue1 (c : Dev nD) (b : Bool) (s r : Fin 4) :
    iprop(homeP m c b ∗ freeP c b (par r)) ⊢ WP c (issue1 c s r b) (fun _ => flyP m c b s r) :=
  wp_issue_at m c b s r _ (sem2_stage b (par r))

theorem wp_await_at (c : Dev nD) (b : Bool) (s r : Fin 4) (l : List (Bool × Fin 3)) (q : DmaSem sig) (hq : q = gsem b (par r))
    {hsrc : (hS b c s r).view.WordExact} {hdst : (gS b (par r)).view.WordExact} :
    iprop(levAts L lv ∗ flyP m c b s r ∗ owing c (oweL c l))
      ⊢ WP c (Prog.lift (.waitDma2 q (hS b c s r) (gS b (par r)) hsrc hdst))
          (fun _ => iprop(homeP m c b ∗ stageP c b (par r) (kvVal m b c s r) ∗ semVal (gCell c b (par r)) 0 ∗ owing c (oweL c l))) := by
  subst hq
  unfold flyP owing
  iintro ⟨#Hlev, ⟨%f, %hf, HF, Hrest⟩, ⟨%W, HO⟩⟩
  unfold Prog.lift
  iapply (Transfers.wp_waitLocalO EC 𝒱₀ (c : Thread nD τ) none () (NG_eq b (par r)) (O := oweL c l) (W := W)) $$ [HF HO]
  · isplitl [HF]; · iexact HF
    isplitl [HO]; · iexact HO
    iapply (mayWait_hops (F := F) c (.dma (gsem b (par r))) l (fun x _ => by rw [lvS_gsem]; omega)); iexact Hlev
  iintro ⟨⟨Hs, Hh⟩, Hv, HO⟩
  rw [wp_ret]; imodintro
  isplitl [Hh Hrest]
  · unfold homeP owns
    iexists f
    isplitr; · ipureintro; exact hf
    iapply (pointsTo_split_subset (hS_sub b c s r)).2
    isplitl [Hh] <;> iassumption
  isplitl [Hs]; · iexact Hs
  isplitl [Hv]; · iexact Hv
  iexists _; iexact HO

theorem wp_await1 (c : Dev nD) (b : Bool) (s r : Fin 4) (l : List (Bool × Fin 3)) :
    iprop(levAts L lv ∗ flyP m c b s r ∗ owing c (oweL c l))
      ⊢ WP c (await1 c s r b)
          (fun _ => iprop(homeP m c b ∗ stageP c b (par r) (kvVal m b c s r) ∗ semVal (gCell c b (par r)) 0 ∗ owing c (oweL c l))) :=
  wp_await_at m c b s r l _ (sem2_stage b (par r))

/-- K and V at home; both stages `i` free; both copies of (slot `s`, class `r`) under way. -/
def homes (c : Dev nD) : sProp 𝕄 := iprop(homeP m c false ∗ homeP m c true)
def frees (c : Dev nD) (i : Fin 2) : sProp 𝕄 := iprop(freeP c false i ∗ freeP c true i)
def flies (c : Dev nD) (s r : Fin 4) : sProp 𝕄 := iprop(flyP m c false s r ∗ flyP m c true s r)

theorem wp_issue (c : Dev nD) (s r : Fin 4) : iprop(homes m c ∗ frees c (par r)) ⊢ WP c (issue c s r) (fun _ => flies m c s r) := by
  unfold homes frees flies issue
  iintro ⟨⟨H1, H2⟩, F1, F2⟩
  iapply (wp_use (wp_issue1 m c false s r)) $$ [H1 F1]
  · isplitl [H1] <;> iassumption
  iintro %_ H
  iapply (wp_last (wp_issue1 m c true s r)) $$ [H2 F2]
  · isplitl [H2] <;> iassumption
  iintro %_ H'
  isplitl [H] <;> iassumption

/-- The staged blocks are waited for and loaded; `next` is run with the other stages free. -/
theorem wp_stageIn (c : Dev nD) (s r : Fin 4) (l : List (Bool × Fin 3)) (next : KProg F PUnit) (i' : Fin 2) (Nx : sProp 𝕄)
    (hn : iprop(homes m c ∗ frees c i') ⊢ WP c next (fun _ => Nx)) :
    iprop(levAts L lv ∗ flies m c s r ∗ frees c i' ∗ owing c (oweL c l))
      ⊢ WP c (stageIn c s r next) (fun kv => iprop(⌜kv = (kvAt m false c s r, kvAt m true c s r)⌝ ∗ Nx ∗ frees c (par r) ∗ owing c (oweL c l))) := by
  unfold stageIn flies
  iintro ⟨#Hlev, ⟨Hk, Hv⟩, Hf, Ho⟩
  iapply (wp_use (wp_await1 m c false s r l)) $$ [Hk Ho]
  · isplitr; · iexact Hlev
    isplitl [Hk] <;> iassumption
  iintro %_ ⟨Hh1, Hs1, Hz1, Ho⟩
  iapply (wp_use (wp_await1 m c true s r l)) $$ [Hv Ho]
  · isplitr; · iexact Hlev
    isplitl [Hv] <;> iassumption
  iintro %_ ⟨Hh2, Hs2, Hz2, Ho⟩
  iapply (wp_use hn) $$ [Hh1 Hh2 Hf]
  · isplitl [Hh1 Hh2]
    · unfold homes; isplitl [Hh1] <;> iassumption
    iexact Hf
  iintro %_ HN
  unfold stageP
  iapply (wp_use (wp_ld_slice c (gM false) (gR (par r)) (fun _ => rfl) (View.loadsAt_vmem h_S1x8x64x8x128) fullShare (kvVal m false c s r))) $$ Hs1
  iintro %k ⟨%hk, Hs1⟩
  iapply (wp_use (wp_ld_slice c (gM true) (gR (par r)) (fun _ => rfl) (View.loadsAt_vmem h_S1x8x64x8x128) fullShare (kvVal m true c s r))) $$ Hs2
  iintro %v ⟨%hv, Hs2⟩
  subst hk hv
  rw [Prog.pure_eq_ret]; unfold WP; rw [wp_ret]; imodintro
  isplitr; · ipureintro; rfl
  isplitl [HN]; · iexact HN
  isplitr [Ho]; rotate_left
  · iexact Ho
  unfold frees freeP stageP
  isplitl [Hs1 Hz1]
  · isplitl [Hs1]
    · iexists _; iexact Hs1
    iexact Hz1
  · isplitl [Hs2]
    · iexists _; iexact Hs2
    iexact Hz2

/-! ## One attention step -/

theorem wp_queries (c : Dev nD) (s : Fin 4) (q : PosShare TreeShare) :
    iprop(owns (c : Thread nD τ) xM fullShare (xStg m c) ∗ slotP q c false s (wAt m false c s))
      ⊢ WP c (queries s) (fun v => iprop(⌜v = qgAt m c s⌝ ∗ owns (c : Thread nD τ) xM fullShare (xStg m c) ∗ slotP q c false s (wAt m false c s))) := by
  unfold queries slotP
  iintro ⟨Hx, Hw⟩
  iapply (wp_use (wp_ld c xM (Rect.unit (s := S2048x1024) ![0, 0] S2048x1024.size inb_S2048x1024_S2048x1024_0_0) (View.loadsAt_vmem h_S2048x1024) fullShare (xStg m c))) $$ Hx
  iintro %x ⟨%hx, Hx⟩
  iapply (wp_use (wp_ld_slice c (rM false) (rR s) (fun _ => rfl) (View.loadsAt_vmem h_S1x1024x1024) q (wAt m false c s))) $$ Hw
  iintro %w ⟨%hw, Hw⟩
  have hx' : x = xStg m c := hx.trans (funext fun j => congrArg (xStg m c) (Rect.emb_unit_full (s := S2048x1024) _ j))
  subst hx' hw
  rw [Prog.pure_eq_ret]; unfold WP; rw [wp_ret]; imodintro
  isplitr; · ipureintro; rfl
  isplitl [Hx] <;> iassumption

/-- Eight pieces, each taking what is known one further. -/
theorem wp_eight (c : Dev nD) (p : Fin 8 → KProg F PUnit) (I : ℕ → sProp 𝕄) (h : ∀ k : Fin 8, I k.val ⊢ WP c (p k) (fun _ => I (k.val + 1))) :
    I 0 ⊢ WP c (eight p) (fun _ => I 8) := by
  unfold eight
  have h0 : I 0 ⊢ WP c (p 0) (fun _ => I 1) := h 0
  have h1 : I 1 ⊢ WP c (p 1) (fun _ => I 2) := h 1
  have h2 : I 2 ⊢ WP c (p 2) (fun _ => I 3) := h 2
  have h3 : I 3 ⊢ WP c (p 3) (fun _ => I 4) := h 3
  have h4 : I 4 ⊢ WP c (p 4) (fun _ => I 5) := h 4
  have h5 : I 5 ⊢ WP c (p 5) (fun _ => I 6) := h 5
  have h6 : I 6 ⊢ WP c (p 6) (fun _ => I 7) := h 6
  have h7 : I 7 ⊢ WP c (p 7) (fun _ => I 8) := h 7
  iintro H
  iapply (wp_use h0) $$ H; iintro %_ H
  iapply (wp_use h1) $$ H; iintro %_ H
  iapply (wp_use h2) $$ H; iintro %_ H
  iapply (wp_use h3) $$ H; iintro %_ H
  iapply (wp_use h4) $$ H; iintro %_ H
  iapply (wp_use h5) $$ H; iintro %_ H
  iapply (wp_use h6) $$ H; iintro %_ H
  iapply h7 $$ H

/-- The context buffer, some of its first columns known. -/
def ctxP (c : Dev nD) (G : Vec F S512x1024 .bf16) (k : ℕ) : sProp 𝕄 := known c cM G (fun i => (i 1).val < 128 * k)
/-- The kept contexts, some of the first (class, head) pairs known. -/
def keptP (c : Dev nD) (G : Vec F S4x512x1024 .bf16) (k : ℕ) : sProp 𝕄 := known c fM G (fun i => 8 * (i 0).val + (i 2).val / 128 < k)

theorem ctxP_any (c : Dev nD) (G G' : Vec F S512x1024 .bf16) (k : ℕ) : (ctxP c G k : sProp 𝕄) ⊢ ctxP c G' 0 := by
  unfold ctxP known
  iintro ⟨%X, -, H⟩
  iexists X
  isplitr
  · ipureintro; intro i hi; omega
  · iexact H

theorem wp_headC (c : Dev nD) (q : FVec F S512x1024 .bf16) (k v : FVec F S8x64x8x128 .bf16) (h : Fin 8) :
    ctxP c (ctxOf q k v) h.val ⊢ WP c (headC q k v h) (fun _ => ctxP c (ctxOf q k v) (h.val + 1)) := by
  unfold ctxP headC
  refine wp_grow c cM (ctxOf q k v) _ _ (cR h) (View.loadsAt_vmem h_S512x128) _ _ _ (fun x => ?_) (fun i hi hn => ?_)
  · rw [ctxOf_emb]; exact congrFun (shapeCast_self _ _) x
  · by_contra hlt
    refine hn (Rect.mem_set_unit.mpr fun a => ?_)
    match a with
    | ⟨0, _⟩ => exact ⟨Nat.zero_le _, (Nat.zero_add _).symm ▸ (i 0).isLt⟩
    | ⟨1, _⟩ => exact ⟨by show 128 * h.val ≤ (i 1).val; omega, by show (i 1).val < 128 * h.val + 128; omega⟩

theorem wp_headF (c : Dev nD) (s r : Fin 4) (h : Fin 8) :
    keptP c (keptAt m c s) (8 * r.val + h.val)
      ⊢ WP c (headF r (qrOf r (qgAt m c s)) (kvAt m false c s r) (kvAt m true c s r) h) (fun _ => keptP c (keptAt m c s) (8 * r.val + (h.val + 1))) := by
  unfold keptP headF
  refine wp_grow c fM (keptAt m c s) _ _ (fR r h) (View.loadsAt_vmem h_S1x512x128) _ _ _ (fun x => ?_) (fun i hi hn => ?_)
  · exact (keptAt_emb m c s r h x).symm
  · by_contra hlt
    refine hn (Rect.mem_set_unit.mpr fun a => ?_)
    have h2 : (i 2).val < 1024 := (i 2).isLt
    have hh := h.isLt
    match a with
    | ⟨0, _⟩ => exact ⟨by show r.val ≤ (i 0).val; omega, by show (i 0).val < r.val + 1; omega⟩
    | ⟨1, _⟩ => exact ⟨Nat.zero_le _, (Nat.zero_add _).symm ▸ (i 1).isLt⟩
    | ⟨2, _⟩ => exact ⟨by show 128 * h.val ≤ (i 2).val; omega, by show (i 2).val < 128 * h.val + 128; omega⟩

theorem wp_apply (c : Dev nD) (s r : Fin 4) (q : PosShare TreeShare) (o : Vec F S8x4x64x1024 .f32) (ctx : Vec F S512x1024 .bf16) (hc : ctx = ctxAt m c s r) :
    iprop(slotP q c true s (wAt m true c s) ∗ owns (c : Thread nD τ) oM fullShare o)
      ⊢ WP c (apply s r ctx) (fun _ => iprop(slotP q c true s (wAt m true c s) ∗ owns (c : Thread nD τ) oM fullShare (outStep m c s o r))) := by
  subst hc
  unfold apply slotP
  iintro ⟨Hw, Ho⟩
  iapply (wp_use (wp_ld_slice c (rM true) (rR s) (fun _ => rfl) (View.loadsAt_vmem h_S1x1024x1024) q (wAt m true c s))) $$ Hw
  iintro %w ⟨%hw, Hw⟩
  iapply (wp_use (wp_ld c oM (oR r) (View.loadsAt_vmem h_S8x1x64x1024) fullShare o)) $$ Ho
  iintro %o1 ⟨%ho1, Ho⟩
  iapply (wp_use (wp_ld c oM (oR r) (View.loadsAt_vmem h_S8x1x64x1024) fullShare o)) $$ Ho
  iintro %o2 ⟨-, Ho⟩
  subst hw ho1
  iapply (wp_last (wp_st c oM (oR r) _ o (View.stores_vmem_bits_univ h_S8x1x64x1024 rfl) (.inl rfl))) $$ Ho
  iintro %_ Ho
  isplitl [Hw]; · iexact Hw
  iexact Ho

/-- One (slot, class) pair. -/
theorem wp_step (c : Dev nD) (s r : Fin 4) (l : List (Bool × Fin 3)) (next : KProg F PUnit) (i' : Fin 2) (Nx : sProp 𝕄)
    (hn : iprop(homes m c ∗ frees c i') ⊢ WP c next (fun _ => Nx)) (q : PosShare TreeShare) (o : Vec F S8x4x64x1024 .f32) (G : Vec F S512x1024 .bf16) :
    iprop(levAts L lv ∗ flies m c s r ∗ frees c i' ∗ owing c (oweL c l) ∗ ctxP c G 0 ∗ slotP q c true s (wAt m true c s) ∗ owns (c : Thread nD τ) oM fullShare o)
      ⊢ WP c (step c s r (qgAt m c s) next)
          (fun _ => iprop(Nx ∗ frees c (par r) ∗ owing c (oweL c l) ∗ ctxP c G 0 ∗ slotP q c true s (wAt m true c s)
            ∗ owns (c : Thread nD τ) oM fullShare (outStep m c s o r))) := by
  unfold step
  iintro ⟨#Hlev, Hf, Hr, Ho, Hc, Hw, Hout⟩
  iapply (wp_use (wp_stageIn m c s r l next i' Nx hn)) $$ [Hf Hr Ho]
  · isplitr; · iexact Hlev
    isplitl [Hf]; · iexact Hf
    isplitl [Hr] <;> iassumption
  iintro %kv ⟨%hkv, HN, Hr, Ho⟩
  subst hkv
  ihave Hc := (ctxP_any c G (ctxAt m c s r) 0) $$ Hc
  iapply (wp_use (wp_eight c (headC (qrOf r (qgAt m c s)) (kvAt m false c s r) (kvAt m true c s r)) (fun k => ctxP c (ctxAt m c s r) k)
    (fun h => wp_headC c _ _ _ h))) $$ Hc
  iintro %_ Hc
  unfold ctxP known
  icases Hc with ⟨%X, %hX, Hc⟩
  iapply (wp_use (wp_ld c cM (Rect.unit (s := S512x1024) ![0, 0] S512x1024.size inb_S512x1024_S512x1024_0_0) (View.loadsAt_vmem h_S512x1024) fullShare X)) $$ Hc
  iintro %x ⟨%hx, Hc⟩
  have hx' : x = ctxAt m c s r := hx.trans (funext fun j =>
    (congrArg X (Rect.emb_unit_full (s := S512x1024) _ j)).trans (hX j (j 1).isLt))
  iapply (wp_last (wp_apply m c s r q o x hx')) $$ [Hw Hout]
  · isplitl [Hw] <;> iassumption
  iintro %_ ⟨Hw, Hout⟩
  isplitl [HN]; · iexact HN
  isplitl [Hr]; · iexact Hr
  isplitl [Ho]; · iexact Ho
  isplitl [Hc]
  · iexists X
    isplitr
    · ipureintro; intro i hi; omega
    · iexact Hc
  isplitl [Hw] <;> iassumption

/-- One (slot, class) pair whose context is kept. -/
theorem wp_stepF (c : Dev nD) (s r : Fin 4) (k k' : ℕ) (hk : 8 * r.val = k) (hk' : k + 8 = k') (l : List (Bool × Fin 3)) (next : KProg F PUnit) (i' : Fin 2) (Nx : sProp 𝕄)
    (hn : iprop(homes m c ∗ frees c i') ⊢ WP c next (fun _ => Nx)) :
    iprop(levAts L lv ∗ flies m c s r ∗ frees c i' ∗ owing c (oweL c l) ∗ keptP c (keptAt m c s) k)
      ⊢ WP c (stepF c s r (qgAt m c s) next)
          (fun _ => iprop(Nx ∗ frees c (par r) ∗ owing c (oweL c l) ∗ keptP c (keptAt m c s) k')) := by
  subst hk hk'
  unfold stepF
  iintro ⟨#Hlev, Hf, Hr, Ho, Hc⟩
  iapply (wp_use (wp_stageIn m c s r l next i' Nx hn)) $$ [Hf Hr Ho]
  · isplitr; · iexact Hlev
    isplitl [Hf]; · iexact Hf
    isplitl [Hr] <;> iassumption
  iintro %kv ⟨%hkv, HN, Hr, Ho⟩
  subst hkv
  iapply (wp_last (wp_eight c (headF r (qrOf r (qgAt m c s)) (kvAt m false c s r) (kvAt m true c s r))
    (fun k => keptP c (keptAt m c s) (8 * r.val + k)) (fun h => wp_headF m c s r h))) $$ Hc
  iintro %_ Hc
  isplitl [HN]; · iexact HN
  isplitl [Hr]; · iexact Hr
  isplitl [Ho] <;> iassumption

/-- A kept context's share of the result. -/
theorem wp_applyF (c : Dev nD) (s r : Fin 4) (q : PosShare TreeShare) (o : Vec F S8x4x64x1024 .f32) :
    iprop(keptP c (keptAt m c s) 32 ∗ slotP q c true s (wAt m true c s) ∗ owns (c : Thread nD τ) oM fullShare o)
      ⊢ WP c (applyF s r) (fun _ => iprop(keptP c (keptAt m c s) 32 ∗ slotP q c true s (wAt m true c s)
          ∗ owns (c : Thread nD τ) oM fullShare (outStep m c s o r))) := by
  unfold applyF keptP known
  iintro ⟨⟨%X, %hX, Hc⟩, Hw, Ho⟩
  iapply (wp_use (wp_ld c fM (fR' r) (View.loadsAt_vmem h_S1x512x1024) fullShare X)) $$ Hc
  iintro %x ⟨%hx, Hc⟩
  have hX' : X = keptAt m c s := funext fun i => hX i (by
    have h0 : (i 0).val < 4 := (i 0).isLt
    have h2 : (i 2).val < 1024 := (i 2).isLt
    omega)
  subst hX' hx
  iapply (wp_last (wp_apply m c s r q o _ (keptAt_load m c s r))) $$ [Hw Ho]
  · isplitl [Hw] <;> iassumption
  iintro %_ ⟨Hw, Ho⟩
  isplitl [Hc]
  · iexists _
    isplitr
    · ipureintro; exact hX
    · iexact Hc
  isplitl [Hw] <;> iassumption

/-- A slot's four classes. -/
theorem wp_slot (c : Dev nD) (s : Fin 4) (l : List (Bool × Fin 3)) (next : KProg F PUnit) (Nx : sProp 𝕄)
    (hn : iprop(homes m c ∗ frees c 0) ⊢ WP c next (fun _ => Nx)) (q q' : PosShare TreeShare) (o : Vec F S8x4x64x1024 .f32) (G : Vec F S512x1024 .bf16) :
    iprop(levAts L lv ∗ flies m c s 0 ∗ frees c 1 ∗ owing c (oweL c l) ∗ ctxP c G 0 ∗ owns (c : Thread nD τ) xM fullShare (xStg m c)
        ∗ slotP q c false s (wAt m false c s) ∗ slotP q' c true s (wAt m true c s) ∗ owns (c : Thread nD τ) oM fullShare o)
      ⊢ WP c (slot c s next)
          (fun _ => iprop(Nx ∗ frees c 1 ∗ owing c (oweL c l) ∗ ctxP c G 0 ∗ owns (c : Thread nD τ) xM fullShare (xStg m c)
            ∗ slotP q c false s (wAt m false c s) ∗ slotP q' c true s (wAt m true c s) ∗ owns (c : Thread nD τ) oM fullShare (outSlot m c o s))) := by
  unfold slot
  iintro ⟨#Hlev, Hf, Hr, Ho, Hc, Hx, Hq, Hw, Hout⟩
  iapply (wp_use (wp_queries m c s q)) $$ [Hx Hq]
  · isplitl [Hx] <;> iassumption
  iintro %qg ⟨%hqg, Hx, Hq⟩
  subst hqg
  iapply (wp_use (wp_step m c s 0 l _ 1 (flies m c s 1) (wp_issue m c s 1) q' o G)) $$ [Hf Hr Ho Hc Hw Hout]
  · isplitr; · iexact Hlev
    isplitl [Hf]; · iexact Hf
    isplitl [Hr]; · iexact Hr
    isplitl [Ho]; · iexact Ho
    isplitl [Hc]; · iexact Hc
    isplitl [Hw] <;> iassumption
  iintro %_ ⟨Hf, Hr, Ho, Hc, Hw, Hout⟩
  iapply (wp_use (wp_step m c s 1 l _ 0 (flies m c s 2) (wp_issue m c s 2) q' _ G)) $$ [Hf Hr Ho Hc Hw Hout]
  · isplitr; · iexact Hlev
    isplitl [Hf]; · iexact Hf
    isplitl [Hr]; · iexact Hr
    isplitl [Ho]; · iexact Ho
    isplitl [Hc]; · iexact Hc
    isplitl [Hw] <;> iassumption
  iintro %_ ⟨Hf, Hr, Ho, Hc, Hw, Hout⟩
  iapply (wp_use (wp_step m c s 2 l _ 1 (flies m c s 3) (wp_issue m c s 3) q' _ G)) $$ [Hf Hr Ho Hc Hw Hout]
  · isplitr; · iexact Hlev
    isplitl [Hf]; · iexact Hf
    isplitl [Hr]; · iexact Hr
    isplitl [Ho]; · iexact Ho
    isplitl [Hc]; · iexact Hc
    isplitl [Hw] <;> iassumption
  iintro %_ ⟨Hf, Hr, Ho, Hc, Hw, Hout⟩
  iapply (wp_last (wp_step m c s 3 l next 0 Nx hn q' _ G)) $$ [Hf Hr Ho Hc Hw Hout]
  · isplitr; · iexact Hlev
    isplitl [Hf]; · iexact Hf
    isplitl [Hr]; · iexact Hr
    isplitl [Ho]; · iexact Ho
    isplitl [Hc]; · iexact Hc
    isplitl [Hw] <;> iassumption
  iintro %_ ⟨Hf, Hr, Ho, Hc, Hw, Hout⟩
  isplitl [Hf]; · iexact Hf
  isplitl [Hr]; · iexact Hr
  isplitl [Ho]; · iexact Ho
  isplitl [Hc]; · iexact Hc
  isplitl [Hx]; · iexact Hx
  isplitl [Hq]; · iexact Hq
  isplitl [Hw]; · iexact Hw
  iexact Hout

/-- A slot's four classes, their contexts kept. -/
theorem wp_slotF (c : Dev nD) (s : Fin 4) (l : List (Bool × Fin 3)) (next : KProg F PUnit) (Nx : sProp 𝕄)
    (hn : iprop(homes m c ∗ frees c 0) ⊢ WP c next (fun _ => Nx)) (q : PosShare TreeShare) :
    iprop(levAts L lv ∗ flies m c s 0 ∗ frees c 1 ∗ owing c (oweL c l) ∗ keptP c (keptAt m c s) 0 ∗ owns (c : Thread nD τ) xM fullShare (xStg m c)
        ∗ slotP q c false s (wAt m false c s))
      ⊢ WP c (slotF c s next)
          (fun _ => iprop(Nx ∗ frees c 1 ∗ owing c (oweL c l) ∗ keptP c (keptAt m c s) 32 ∗ owns (c : Thread nD τ) xM fullShare (xStg m c)
            ∗ slotP q c false s (wAt m false c s))) := by
  unfold slotF
  iintro ⟨#Hlev, Hf, Hr, Ho, Hc, Hx, Hq⟩
  iapply (wp_use (wp_queries m c s q)) $$ [Hx Hq]
  · isplitl [Hx] <;> iassumption
  iintro %qg ⟨%hqg, Hx, Hq⟩
  subst hqg
  iapply (wp_use (wp_stepF m c s 0 0 8 rfl rfl l _ 1 (flies m c s 1) (wp_issue m c s 1))) $$ [Hf Hr Ho Hc]
  · isplitr; · iexact Hlev
    isplitl [Hf]; · iexact Hf
    isplitl [Hr]; · iexact Hr
    isplitl [Ho] <;> iassumption
  iintro %_ ⟨Hf, Hr, Ho, Hc⟩
  iapply (wp_use (wp_stepF m c s 1 8 16 rfl rfl l _ 0 (flies m c s 2) (wp_issue m c s 2))) $$ [Hf Hr Ho Hc]
  · isplitr; · iexact Hlev
    isplitl [Hf]; · iexact Hf
    isplitl [Hr]; · iexact Hr
    isplitl [Ho] <;> iassumption
  iintro %_ ⟨Hf, Hr, Ho, Hc⟩
  iapply (wp_use (wp_stepF m c s 2 16 24 rfl rfl l _ 1 (flies m c s 3) (wp_issue m c s 3))) $$ [Hf Hr Ho Hc]
  · isplitr; · iexact Hlev
    isplitl [Hf]; · iexact Hf
    isplitl [Hr]; · iexact Hr
    isplitl [Ho] <;> iassumption
  iintro %_ ⟨Hf, Hr, Ho, Hc⟩
  iapply (wp_last (wp_stepF m c s 3 24 32 rfl rfl l next 0 Nx hn)) $$ [Hf Hr Ho Hc]
  · isplitr; · iexact Hlev
    isplitl [Hf]; · iexact Hf
    isplitl [Hr]; · iexact Hr
    isplitl [Ho] <;> iassumption
  iintro %_ ⟨Hf, Hr, Ho, Hc⟩
  isplitl [Hf]; · iexact Hf
  isplitl [Hr]; · iexact Hr
  isplitl [Ho]; · iexact Ho
  isplitl [Hc]; · iexact Hc
  isplitl [Hx] <;> iassumption

/-! ## The prologue's stores -/

theorem wp_seed (c : Dev nD) (b : Bool) (X : Vec F S1x1024x1024 .bf16) :
    iprop(owns (c : Thread nD τ) (wM b) fullShare (wStg m b c) ∗ slotP fullShare c b 0 X)
      ⊢ WP c (seed b) (fun _ => iprop(owns (c : Thread nD τ) (wM b) fullShare (wStg m b c) ∗ slotP fullShare c b 0 (wAt m b c 0))) := by
  unfold seed slotP
  iintro ⟨Hw, Hs⟩
  iapply (wp_use (wp_ld c (wM b) (Rect.unit (s := S1024x1024) ![0, 0] S1024x1024.size inb_S1024x1024_S1024x1024_0_0) (View.loadsAt_vmem h_S1024x1024) fullShare (wStg m b c))) $$ Hw
  iintro %w ⟨%hw, Hw⟩
  iapply (wp_use (wp_ld_slice c (rM b) (rR 0) (fun _ => rfl) (View.loadsAt_vmem h_S1x1024x1024) fullShare X)) $$ Hs
  iintro %_ ⟨-, Hs⟩
  have hw' : w = wStg m b c := hw.trans (funext fun j => congrArg (wStg m b c) (Rect.emb_unit_full (s := S1024x1024) _ j))
  subst hw'
  iapply (wp_last (wp_st_slice c (rM b) (rR 0) (fun _ => rfl) _ X _ _)) $$ Hs
  iintro %_ Hs
  isplitl [Hw]; · iexact Hw
  unfold wAt; rw [rot_zero]
  iexact Hs

theorem wp_zeroOut (c : Dev nD) (o : Vec F S8x4x64x1024 .f32) :
    owns (c : Thread nD τ) oM fullShare o ⊢ WP c (zeroOut (F := F)) (fun _ => owns (c : Thread nD τ) oM fullShare outZero) := by
  unfold zeroOut
  iintro Ho
  iapply (wp_use (wp_ld c oM (Rect.unit (s := S8x4x64x1024) ![0, 0, 0, 0] S8x4x64x1024.size inb_S8x4x64x1024_S8x4x64x1024_0_0_0_0) (View.loadsAt_vmem h_S8x4x64x1024) fullShare o)) $$ Ho
  iintro %_ ⟨-, Ho⟩
  iapply (wp_last (wp_st c oM (Rect.unit (s := S8x4x64x1024) ![0, 0, 0, 0] S8x4x64x1024.size inb_S8x4x64x1024_S8x4x64x1024_0_0_0_0) _ o _ _)) $$ Ho
  iintro %_ Ho
  have h : ∀ w : Vec F S8x4x64x1024 .f32, (Rect.unit (s := S8x4x64x1024) ![0, 0, 0, 0] S8x4x64x1024.size inb_S8x4x64x1024_S8x4x64x1024_0_0_0_0).overlay o w = w := fun w => funext fun j =>
    (congrArg _ (Rect.emb_unit_full (s := S8x4x64x1024) inb_S8x4x64x1024_S8x4x64x1024_0_0_0_0 j).symm).trans (Rect.overlay_emb (Rect.unit (s := S8x4x64x1024) ![0, 0, 0, 0] S8x4x64x1024.size inb_S8x4x64x1024_S8x4x64x1024_0_0_0_0) o w j)
  rw [h]
  iexact Ho

end Cert.KernelIdealProof

end
-- ==== Proof.KI.Whole.lean ====
/- The whole body: from what a device holds when it enters, to what it holds when it leaves. -/
module

public import proofs.«01_k».proof.Proof.KI.Local

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- What a hop needs before it starts: the two tokens it pays with, its place at its two semaphores, the credit of the
    arrival it will wait for. -/
def hopG (c : Dev nD) (x : Bool × Fin 3) : sProp 𝕄 :=
  iprop(dutyTok ER (xCell c x.1 false x.2) 0 false ∗ dutyTok ER (xCell (peer x.1 c) x.1 true x.2) 0 false
    ∗ cred (tallyAt (xCell c x.1 true x.2) () N) ∗ atPos ER (xCell c x.1 false x.2) 0 ∅ 0 ∗ atPos ER (xCell c x.1 true x.2) 0 ∅ 0)
/-- While it is under way: both credits, the places, half of the sent slot. -/
def hopM (c : Dev nD) (b : Bool) (h : Fin 3) : sProp 𝕄 :=
  iprop(cred (tallyAt (xCell c b false h) () N) ∗ cred (tallyAt (xCell c b true h) () N)
    ∗ atPos ER (xCell c b false h) 0 ∅ 0 ∗ atPos ER (xCell c b true h) 0 ∅ 0)
/-- After it: both semaphores at rest. -/
def hopZ (c : Dev nD) (x : Bool × Fin 3) : sProp 𝕄 :=
  iprop(semVal (xCell c x.1 false x.2) 0 ∗ semVal (xCell c x.1 true x.2) 0)

variable (K : Dev nD × Fin 13 → ℕ)

theorem wp_sendG (c : Dev nD) (b : Bool) (h : Fin 3) (l : List (Bool × Fin 3)) :
    iprop(records m K ∗ hopG c (b, h) ∗ slotP fullShare c b (srcSlot b h) (wAt m b c (srcSlot b h)) ∗ landP (peer b c) b h
        ∗ owing c (oweL c ((b, h) :: l)))
      ⊢ WP c (send c b h) (fun _ => iprop(hopM c b h ∗ slotP fullShare.right c b (srcSlot b h) (wAt m b c (srcSlot b h)) ∗ owing c (oweL c l))) := by
  unfold hopG hopM
  iintro ⟨#HR, ⟨Ht1, Ht2, Hc, Ha1, Ha2⟩, Hs, Hd, Ho⟩
  iapply (wp_last (wp_send m K c b h l)) $$ [Ht1 Ht2 Hs Hd Ho]
  · isplitr; · iexact HR
    isplitl [Hs]; · iexact Hs
    isplitl [Hd]; · iexact Hd
    isplitl [Ho]; · iexact Ho
    isplitl [Ht1] <;> iassumption
  iintro %_ ⟨Hs, Hc1, Ho⟩
  isplitr [Hs Ho]
  · isplitl [Hc1]; · iexact Hc1
    isplitl [Hc]; · iexact Hc
    isplitl [Ha1] <;> iassumption
  · isplitl [Hs] <;> iassumption

theorem wp_recvM (c : Dev nD) (b : Bool) (h : Fin 3) (l : List (Bool × Fin 3)) (hl : ∀ x ∈ l, h < x.2) :
    iprop(records m K ∗ levAts L lv ∗ hopM c b h ∗ slotP fullShare.right c b (srcSlot b h) (wAt m b c (srcSlot b h)) ∗ owing c (oweL c l))
      ⊢ WP c (recv b h) (fun _ => iprop(hopZ c (b, h) ∗ slotP fullShare c b (srcSlot b h) (wAt m b c (srcSlot b h))
          ∗ slotP fullShare c b (dstSlot b h) (wAt m b c (dstSlot b h)) ∗ owing c (oweL c l))) := by
  unfold hopZ hopM
  iintro ⟨#HR, #Hlev, ⟨Hc1, Hc2, Ha1, Ha2⟩, Hs, Ho⟩
  iapply (wp_last (wp_recv m K c b h l hl)) $$ [Hc1 Hc2 Ha1 Ha2 Hs Ho]
  · isplitr; · iexact HR
    isplitr; · iexact Hlev
    isplitl [Hs]; · iexact Hs
    isplitl [Ho]; · iexact Ho
    isplitl [Hc1]; · iexact Hc1
    isplitl [Hc2]; · iexact Hc2
    isplitl [Ha1] <;> iassumption
  iintro %_ ⟨Hs, Hd, Ho, Hz1, Hz2⟩
  isplitl [Hz1 Hz2]
  · isplitl [Hz1] <;> iassumption
  isplitl [Hs]; · iexact Hs
  isplitl [Hd] <;> iassumption

/-- The buffers a device works in, entering. -/
def workIn (c : Dev nD) : sProp 𝕄 :=
  iprop((∃ X, slotP fullShare c false 0 X) ∗ (∃ X, slotP fullShare c true 0 X) ∗ landsP c false ∗ landsP c true
    ∗ frees c 0 ∗ frees c 1 ∗ ctxP c (ctxAt m c 0 0) 0 ∗ keptP c (keptAt m c 3) 0)
/-- Leaving: every slot holds its block. -/
def workOut (c : Dev nD) : sProp 𝕄 :=
  iprop((slotP fullShare c false 0 (wAt m false c 0) ∗ slotP fullShare c false 1 (wAt m false c 1) ∗ slotP fullShare c false 2 (wAt m false c 2)
      ∗ slotP fullShare c false 3 (wAt m false c 3))
    ∗ (slotP fullShare c true 0 (wAt m true c 0) ∗ slotP fullShare c true 1 (wAt m true c 1) ∗ slotP fullShare c true 2 (wAt m true c 2)
      ∗ slotP fullShare c true 3 (wAt m true c 3))
    ∗ frees c 0 ∗ frees c 1 ∗ ctxP c (ctxAt m c 0 0) 0 ∗ keptP c (keptAt m c 3) 32)
/-- The tokens, places and credits of the barrier and the six hops, entering. -/
def ringIn (c : Dev nD) : sProp 𝕄 :=
  iprop((cred (tallyAt (barCell c) () 2) ∗ atPos ER (barCell c) 0 ∅ 0 ∗ dutyTok ER (barCell (prv c)) 0 true ∗ dutyTok ER (barCell (nxt c)) 0 false)
    ∗ hopG c (false, 0) ∗ hopG c (true, 0) ∗ hopG c (false, 1) ∗ hopG c (true, 1) ∗ hopG c (false, 2) ∗ hopG c (true, 2))
/-- Leaving: the thirteen semaphores at rest. -/
def ringOut (c : Dev nD) : sProp 𝕄 :=
  iprop(semVal (barCell c) 0 ∗ hopZ c (false, 0) ∗ hopZ c (true, 0) ∗ hopZ c (false, 1) ∗ hopZ c (true, 1) ∗ hopZ c (false, 2) ∗ hopZ c (true, 2))
/-- The staged inputs. -/
def stagedIn (c : Dev nD) : sProp 𝕄 :=
  iprop(owns (c : Thread nD τ) xM fullShare (xStg m c) ∗ owns (c : Thread nD τ) (wM false) fullShare (wStg m false c)
    ∗ owns (c : Thread nD τ) (wM true) fullShare (wStg m true c))

theorem after0 : ∀ x ∈ ([(false, 1), (true, 1), (false, 2), (true, 2)] : List (Bool × Fin 3)), (0 : Fin 3) < x.2 := by decide
theorem after1 : ∀ x ∈ ([(false, 2), (true, 2)] : List (Bool × Fin 3)), (1 : Fin 3) < x.2 := by decide

set_option maxHeartbeats 1600000 in
/-- The body, piece by piece in order. -/
theorem wp_body (c : Dev nD) (o : Vec F S8x4x64x1024 .f32) :
    iprop(records m K ∗ levAts L lv ∗ owing c (O₀ c) ∗ ringIn c ∗ workIn m c ∗ homes m c ∗ stagedIn m c ∗ owns (c : Thread nD τ) oM fullShare o)
      ⊢ WP c (body (F := F)) (fun _ => iprop(owing c 0 ∗ ringOut c ∗ workOut m c ∗ homes m c ∗ stagedIn m c ∗ owns (c : Thread nD τ) oM fullShare (outAt m c))) := by
  unfold body WP
  simp only [Prog.lift, Prog.bind_op, Prog.bind_ret, wp_deviceId]
  unfold ringIn workIn stagedIn
  iintro ⟨#HR, #Hlev, Ho, ⟨⟨Hcb, Hab, Htp, Htn⟩, G0, G0', G1, G1', G2, G2'⟩, ⟨⟨%X0, Sq0⟩, ⟨%Y0, So0⟩, Lq, Lo, F0, F1, Hc, Hk⟩, Hh, ⟨Hx, Hwq, Hwo⟩, Hout⟩
  -- the prologue: the own blocks into slot 0, the result zeroed, the neighbours' landing slots
  iapply (wp_use (wp_seed m c false X0)) $$ [Hwq Sq0]
  · isplitl [Hwq] <;> iassumption
  iintro %_ ⟨Hwq, Sq0⟩
  iapply (wp_use (wp_seed m c true Y0)) $$ [Hwo So0]
  · isplitl [Hwo] <;> iassumption
  iintro %_ ⟨Hwo, So0⟩
  iapply (wp_use (wp_zeroOut c o)) $$ Hout
  iintro %_ Hout
  iapply (wp_use (wp_handshake m K c)) $$ [Lq Lo Ho Hcb Hab Htp Htn]
  · isplitr; · iexact HR
    isplitr; · iexact Hlev
    isplitl [Lq]; · iexact Lq
    isplitl [Lo]; · iexact Lo
    isplitl [Ho]; · iexact Ho
    isplitl [Hcb]; · iexact Hcb
    isplitl [Hab]; · iexact Hab
    isplitl [Htp] <;> iassumption
  unfold landsP
  iintro %_ ⟨⟨D0, D1, D2⟩, ⟨D0', D1', D2'⟩, Ho, Zb⟩
  iapply (wp_use (wp_issue m c 0 0)) $$ [Hh F0]
  · isplitl [Hh] <;> iassumption
  iintro %_ Hf
  -- hop 0 under way; slot 0
  iapply (wp_use (wp_sendG m K c false 0 _)) $$ [G0 Sq0 D0 Ho]
  · isplitr; · iexact HR
    isplitl [G0]; · iexact G0
    isplitl [Sq0]; · iexact Sq0
    isplitl [D0]; · iexact D0
    iexact Ho
  iintro %_ ⟨G0, Sq0, Ho⟩
  iapply (wp_use (wp_sendG m K c true 0 _)) $$ [G0' So0 D0' Ho]
  · isplitr; · iexact HR
    isplitl [G0']; · iexact G0'
    isplitl [So0]; · iexact So0
    isplitl [D0']; · iexact D0'
    iexact Ho
  iintro %_ ⟨G0', So0, Ho⟩
  iapply (wp_use (wp_slot m c 0 _ _ (flies m c 3 0) (wp_issue m c 3 0) fullShare.right fullShare.right outZero (ctxAt m c 0 0)))
    $$ [Hf F1 Ho Hc Hx Sq0 So0 Hout]
  · isplitr; · iexact Hlev
    isplitl [Hf]; · iexact Hf
    isplitl [F1]; · iexact F1
    isplitl [Ho]; · iexact Ho
    isplitl [Hc]; · iexact Hc
    isplitl [Hx]; · iexact Hx
    isplitl [Sq0]; · iexact Sq0
    isplitl [So0] <;> iassumption
  iintro %_ ⟨Hf, F1, Ho, Hc, Hx, Sq0, So0, Hout⟩
  iapply (wp_use (wp_recvM m K c false 0 _ after0)) $$ [G0 Sq0 Ho]
  · isplitr; · iexact HR
    isplitr; · iexact Hlev
    isplitl [G0]; · iexact G0
    isplitl [Sq0] <;> iassumption
  iintro %_ ⟨G0, Sq0, Sq3, Ho⟩
  iapply (wp_use (wp_recvM m K c true 0 _ after0)) $$ [G0' So0 Ho]
  · isplitr; · iexact HR
    isplitr; · iexact Hlev
    isplitl [G0']; · iexact G0'
    isplitl [So0] <;> iassumption
  iintro %_ ⟨G0', So0, So1, Ho⟩
  -- hop 1 under way; slot 3, its contexts kept
  iapply (wp_use (wp_sendG m K c false 1 _)) $$ [G1 Sq3 D1 Ho]
  · isplitr; · iexact HR
    isplitl [G1]; · iexact G1
    isplitl [Sq3]; · iexact Sq3
    isplitl [D1]; · iexact D1
    iexact Ho
  iintro %_ ⟨G1, Sq3, Ho⟩
  iapply (wp_use (wp_sendG m K c true 1 _)) $$ [G1' So1 D1' Ho]
  · isplitr; · iexact HR
    isplitl [G1']; · iexact G1'
    isplitl [So1]; · iexact So1
    isplitl [D1']; · iexact D1'
    iexact Ho
  iintro %_ ⟨G1', So1, Ho⟩
  iapply (wp_use (wp_slotF m c 3 _ _ (flies m c 2 0) (wp_issue m c 2 0) fullShare.right)) $$ [Hf F1 Ho Hk Hx Sq3]
  · isplitr; · iexact Hlev
    isplitl [Hf]; · iexact Hf
    isplitl [F1]; · iexact F1
    isplitl [Ho]; · iexact Ho
    isplitl [Hk]; · iexact Hk
    isplitl [Hx] <;> iassumption
  iintro %_ ⟨Hf, F1, Ho, Hk, Hx, Sq3⟩
  iapply (wp_use (wp_recvM m K c false 1 _ after1)) $$ [G1 Sq3 Ho]
  · isplitr; · iexact HR
    isplitr; · iexact Hlev
    isplitl [G1]; · iexact G1
    isplitl [Sq3] <;> iassumption
  iintro %_ ⟨G1, Sq3, Sq2, Ho⟩
  iapply (wp_use (wp_recvM m K c true 1 _ after1)) $$ [G1' So1 Ho]
  · isplitr; · iexact HR
    isplitr; · iexact Hlev
    isplitl [G1']; · iexact G1'
    isplitl [So1] <;> iassumption
  iintro %_ ⟨G1', So1, So2, Ho⟩
  -- hop 2 under way; slot 2
  iapply (wp_use (wp_sendG m K c false 2 _)) $$ [G2 Sq2 D2 Ho]
  · isplitr; · iexact HR
    isplitl [G2]; · iexact G2
    isplitl [Sq2]; · iexact Sq2
    isplitl [D2]; · iexact D2
    iexact Ho
  iintro %_ ⟨G2, Sq2, Ho⟩
  iapply (wp_use (wp_sendG m K c true 2 _)) $$ [G2' So2 D2' Ho]
  · isplitr; · iexact HR
    isplitl [G2']; · iexact G2'
    isplitl [So2]; · iexact So2
    isplitl [D2']; · iexact D2'
    iexact Ho
  iintro %_ ⟨G2', So2, Ho⟩
  iapply (wp_use (wp_slot m c 2 _ _ (flies m c 1 0) (wp_issue m c 1 0) fullShare.right fullShare.right _ (ctxAt m c 0 0)))
    $$ [Hf F1 Ho Hc Hx Sq2 So2 Hout]
  · isplitr; · iexact Hlev
    isplitl [Hf]; · iexact Hf
    isplitl [F1]; · iexact F1
    isplitl [Ho]; · iexact Ho
    isplitl [Hc]; · iexact Hc
    isplitl [Hx]; · iexact Hx
    isplitl [Sq2]; · iexact Sq2
    isplitl [So2] <;> iassumption
  iintro %_ ⟨Hf, F1, Ho, Hc, Hx, Sq2, So2, Hout⟩
  iapply (wp_use (wp_recvM m K c false 2 [] (fun _ h => absurd h List.not_mem_nil))) $$ [G2 Sq2 Ho]
  · isplitr; · iexact HR
    isplitr; · iexact Hlev
    isplitl [G2]; · iexact G2
    isplitl [Sq2] <;> iassumption
  iintro %_ ⟨G2, Sq2, Sq1, Ho⟩
  iapply (wp_use (wp_recvM m K c true 2 [] (fun _ h => absurd h List.not_mem_nil))) $$ [G2' So2 Ho]
  · isplitr; · iexact HR
    isplitr; · iexact Hlev
    isplitl [G2']; · iexact G2'
    isplitl [So2] <;> iassumption
  iintro %_ ⟨G2', So2, So3, Ho⟩
  -- slot 3's share, from the kept contexts
  iapply (wp_use (wp_applyF m c 3 0 fullShare _)) $$ [Hk So3 Hout]
  · isplitl [Hk]; · iexact Hk
    isplitl [So3] <;> iassumption
  iintro %_ ⟨Hk, So3, Hout⟩
  iapply (wp_use (wp_applyF m c 3 1 fullShare _)) $$ [Hk So3 Hout]
  · isplitl [Hk]; · iexact Hk
    isplitl [So3] <;> iassumption
  iintro %_ ⟨Hk, So3, Hout⟩
  iapply (wp_use (wp_applyF m c 3 2 fullShare _)) $$ [Hk So3 Hout]
  · isplitl [Hk]; · iexact Hk
    isplitl [So3] <;> iassumption
  iintro %_ ⟨Hk, So3, Hout⟩
  iapply (wp_use (wp_applyF m c 3 3 fullShare _)) $$ [Hk So3 Hout]
  · isplitl [Hk]; · iexact Hk
    isplitl [So3] <;> iassumption
  iintro %_ ⟨Hk, So3, Hout⟩
  -- slot 1
  iapply (wp_last (wp_slot m c 1 [] (pure ⟨⟩) (iprop(homes m c ∗ frees c 0))
      (by rw [Prog.pure_eq_ret]; unfold WP; rw [wp_ret]; iintro H; imodintro; iexact H) fullShare fullShare _ (ctxAt m c 0 0)))
    $$ [Hf F1 Ho Hc Hx Sq1 So1 Hout]
  · isplitr; · iexact Hlev
    isplitl [Hf]; · iexact Hf
    isplitl [F1]; · iexact F1
    isplitl [Ho]; · iexact Ho
    isplitl [Hc]; · iexact Hc
    isplitl [Hx]; · iexact Hx
    isplitl [Sq1]; · iexact Sq1
    isplitl [So1] <;> iassumption
  iintro %_ ⟨⟨Hh, F0⟩, F1, Ho, Hc, Hx, Sq1, So1, Hout⟩
  unfold ringOut workOut
  isplitl [Ho]; · iexact Ho
  isplitl [Zb G0 G0' G1 G1' G2 G2']
  · isplitl [Zb]; · iexact Zb
    isplitl [G0]; · iexact G0
    isplitl [G0']; · iexact G0'
    isplitl [G1]; · iexact G1
    isplitl [G1']; · iexact G1'
    isplitl [G2] <;> iassumption
  isplitl [Sq0 Sq1 Sq2 Sq3 So0 So1 So2 So3 F0 F1 Hc Hk]
  · isplitl [Sq0 Sq1 Sq2 Sq3]
    · isplitl [Sq0]; · iexact Sq0
      isplitl [Sq1]; · iexact Sq1
      isplitl [Sq2]; · iexact Sq2
      iexact Sq3
    isplitl [So0 So1 So2 So3]
    · isplitl [So0]; · iexact So0
      isplitl [So1]; · iexact So1
      isplitl [So2]; · iexact So2
      iexact So3
    isplitl [F0]; · iexact F0
    isplitl [F1]; · iexact F1
    isplitl [Hc] <;> iassumption
  isplitl [Hh]; · iexact Hh
  isplitl [Hx Hwq Hwo]
  · isplitl [Hx]; · iexact Hx
    isplitl [Hwq] <;> iassumption
  iexact Hout

end Cert.KernelIdealProof

end
-- ==== Proof.KI.Ghost.lean ====
/- What the devices hold of the rings' protocol when they start: made once for all of them, dealt out so that each has the
   tokens of the raises it will make, and the credit of those it will wait for. -/
module

public import proofs.«01_k».proof.Proof.KI.Whole

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The cells, conjoined -/

theorem reassoc (P Q R : sProp 𝕄) : iprop((P ∗ Q) ∗ R) = iprop(P ∗ Q ∗ R) := equiv_iff.mp ⟨BI.sep_assoc, BI.sep_assoc'⟩

/-- A hop's two cells, conjoined. -/
abbrev both (Φ : GSem nD τ sig → sProp 𝕄) (c : Dev nD) (x : Bool × Fin 3) : sProp 𝕄 :=
  iprop(Φ (xCell c x.1 false x.2) ∗ Φ (xCell c x.1 true x.2))

theorem bigSep_hops (Φ : Bool × Fin 3 → sProp 𝕄) : bigSep Finset.univ Φ
    = iprop(Φ (false, 0) ∗ Φ (true, 0) ∗ Φ (false, 1) ∗ Φ (true, 1) ∗ Φ (false, 2) ∗ Φ (true, 2)) :=
  bigSep_univ_eq_bigSepL hops (by decide) (by decide) Φ
/-- Over a device's thirteen cells: the barrier, then the hops. -/
theorem bigSep_cells (Φ : GSem nD τ sig → sProp 𝕄) (c : Dev nD) :
    (bigSep Finset.univ fun k : Fin 13 => Φ (kcell (c, k))) = iprop(Φ (barCell c) ∗ bigSep Finset.univ (both Φ c)) := by
  rw [bigSep_univ_eq_bigSepL [0, 1, 4, 7, 10, 2, 5, 8, 11, 3, 6, 9, 12] (by decide) (by decide), bigSep_hops]
  simp only [both, reassoc]
  rfl

/-- The semaphores of the stages, at rest. -/
def restP (c : Dev nD) : sProp 𝕄 :=
  iprop(semVal (gCell c false 0) 0 ∗ semVal (gCell c false 1) 0 ∗ semVal (gCell c true 0) 0 ∗ semVal (gCell c true 1) 0)

/-- The kernel's own semaphores: the hops' and the stages'. -/
def osem : Fin 16 → SemLoc sig := fun k => .dma ⟨k.val + 4, by have := k.isLt; show k.val + 4 < 20; omega⟩

theorem ownSems0_eq (c : Dev nD) : (Pipeline.ownSems0 (Ix := Unit) (Name := ℕ) (U := UU) (Lvl := ℕ) (Val := Elt F) (τ := τ) osem c : sProp 𝕄)
    = iprop(bigSep Finset.univ (hopZ c) ∗ restP c) := by
  rw [Pipeline.ownSems0_eq_of_list c osem [0, 3, 6, 9, 1, 4, 7, 10, 2, 5, 8, 11, 12, 13, 14, 15] (by decide) (by decide), bigSep_hops]
  simp only [hopZ, restP, reassoc]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ restP c) : sProp 𝕄) := by
  rw [ownSems0_eq, unscopedSems0_eq, bigSep_cells fun g => semVal g 0]
  iintro ⟨⟨HX, HR⟩, HB⟩
  isplitr [HR]; rotate_left
  · iexact HR
  isplitl [HB]; · iexact HB
  iexact HX

/-! ## Minting and dealing -/

theorem kcell_injective : Function.Injective (kcell : Dev nD × Fin 13 → GSem nD τ sig) := by
  rintro ⟨c, k⟩ ⟨c', k'⟩ h
  obtain rfl : c = c' := congrArg (fun g : GSem nD τ sig => g.1.1) h
  have hk : ∀ k k' : Fin 13, csem k = csem k' → k = k' := by decide
  rw [hk k k' (congrArg Prod.snd h)]
def ringCells : Finset (GSem nD τ sig) := Finset.univ.map ⟨kcell, kcell_injective⟩

/-- The tokens: every cell's `false`, and the barriers' `true`. -/
abbrev tokOf : (Dev nD × Fin 13) ⊕ Dev nD → GSem nD τ sig × ℕ × Bool
  | .inl ck => (kcell ck, 0, false)
  | .inr c => (barCell c, 0, true)
theorem tokOf_injective : Function.Injective tokOf := by
  rintro (ck | c) (ck' | c') h
  · rw [kcell_injective (congrArg Prod.fst h)]
  · cases congrArg (fun x : GSem nD τ sig × ℕ × Bool => x.2.2) h
  · cases congrArg (fun x : GSem nD τ sig × ℕ × Bool => x.2.2) h
  · rw [show c = c' from congrArg (fun x : GSem nD τ sig × ℕ × Bool => x.1.1.1) h]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- What is dealt to each device at first: its own cells' states, places and tokens. -/
def G (c : Dev nD) : sProp 𝕄 :=
  iprop((bigSep Finset.univ fun k : Fin 13 => roundState ER (ringRd m) (kcell (c, k)) 0)
    ∗ (bigSep Finset.univ fun k : Fin 13 => iprop(atPos ER (kcell (c, k)) 0 ∅ 0 ∗ reached ER (kcell (c, k)) 0))
    ∗ (bigSep Finset.univ fun k : Fin 13 => dutyTok ER (kcell (c, k)) 0 false) ∗ dutyTok ER (barCell c) 0 true)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄))
      = iprop((bigSep Finset.univ fun c : Dev nD => bigSep Finset.univ fun k : Fin 13 => dutyTok ER (kcell (c, k)) 0 false)
          ∗ bigSep Finset.univ fun c : Dev nD => dutyTok ER (barCell c) 0 true) := by
    unfold ringToks; rw [bigSep_map, bigSep_univ_sum, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ ((bigSep Finset.univ fun k : Fin 13 => dutyTok ER (kcell (c, k)) 0 false) ∗ dutyTok ER (barCell c) 0 true) ∗ restP c) := by
  unfold G
  iintro ⟨Hos, Hus, Hst, Hat, Htok⟩
  ihave Hv := (sems0_eq (F := F) c) $$ [Hos Hus]
  · isplitl [Hos] <;> iassumption
  icases Hv with ⟨Hv, Hrest⟩
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hrest

/-- The tokens a device pays with. -/
def payToks (c : Dev nD) : sProp 𝕄 :=
  iprop((dutyTok ER (barCell (prv c)) 0 true ∗ dutyTok ER (barCell (nxt c)) 0 false)
    ∗ bigSep Finset.univ fun x : Bool × Fin 3 => iprop(dutyTok ER (xCell c x.1 false x.2) 0 false ∗ dutyTok ER (xCell (peer x.1 c) x.1 true x.2) 0 false))

/-- The devices, turned the way ring `b` sends. -/
def turn (b : Bool) : Dev nD ≃ Dev nD := bif b then ring.symm else ring
theorem turn_apply (b : Bool) (c : Dev nD) : turn b c = peer b c := by cases b <;> rfl

/-- Each token to the device that pays with it. -/
theorem toks_around :
    (bigSep Finset.univ fun c : Dev nD => iprop((bigSep Finset.univ fun k : Fin 13 => dutyTok ER (kcell (c, k)) 0 false) ∗ dutyTok ER (barCell c) 0 true) : sProp 𝕄)
      ⊢ bigSep Finset.univ fun c : Dev nD => payToks c := by
  have h1 : (bigSep Finset.univ fun c : Dev nD => bigSep Finset.univ fun x : Bool × Fin 3 => (dutyTok ER (xCell c x.1 true x.2) 0 false : sProp 𝕄))
      = bigSep Finset.univ fun c : Dev nD => bigSep Finset.univ fun x : Bool × Fin 3 => dutyTok ER (xCell (peer x.1 c) x.1 true x.2) 0 false := by
    rw [bigSep_univ_comm, bigSep_univ_comm fun (c : Dev nD) (x : Bool × Fin 3) => (dutyTok ER (xCell (peer x.1 c) x.1 true x.2) 0 false : sProp 𝕄)]
    refine bigSep_congr fun x _ => ?_
    rw [bigSep_univ_equiv (turn x.1)]
    exact bigSep_congr fun c _ => by rw [turn_apply]
  have h2 (c : Dev nD) : (bigSep Finset.univ fun k : Fin 13 => (dutyTok ER (kcell (c, k)) 0 false : sProp 𝕄))
      = iprop(dutyTok ER (barCell c) 0 false ∗ (bigSep Finset.univ fun x : Bool × Fin 3 => dutyTok ER (xCell c x.1 false x.2) 0 false)
          ∗ bigSep Finset.univ fun x : Bool × Fin 3 => dutyTok ER (xCell c x.1 true x.2) 0 false) := by
    rw [bigSep_cells fun g => dutyTok ER g 0 false, ← bigSep_sep']
  unfold payToks
  simp only [h2, bigSep_sep']
  rw [h1, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2, H3⟩, H4⟩
  isplitl [H1 H4]
  · isplitl [H4]; · iexact H4
    iexact H1
  isplitl [H2] <;> iassumption

/-- What a device starts with, beside the records. -/
def linear (c : Dev nD) : sProp 𝕄 :=
  iprop((bigSep Finset.univ fun k : Fin 13 => atPos ER (kcell (c, k)) 0 ∅ 0) ∗ payToks c ∗ restP c)
def G' (c : Dev nD) : sProp 𝕄 := iprop(∃ K, records m K ∗ linear c)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ ((bigSep Finset.univ fun k : Fin 13 => dutyTok ER (kcell (c, k)) 0 false) ∗ dutyTok ER (barCell c) 0 true) ∗ restP c) : sProp 𝕄)
      ⊢ bigSep Finset.univ (G' m) := by
  rw [bigSep_sep', bigSep_sep', bigSep_sep', ← bigSep_univ_prod (fun ck : Dev nD × Fin 13 => iprop(∃ κ : ℕ, cellInv ER (ringRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hrest⟩
  ihave HK := (BI.bigSep_exists_pi Finset.univ (fun (ck : Dev nD × Fin 13) (κ : ℕ) => (cellInv ER (ringRd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G'; iintro H; iexists K; iexact H)
  isplitr
  · unfold records; isplitl; · iexact HI
    iexact HR
  · unfold linear; simp only [bigSep_sep']
    isplitl [Hat]; · iexact Hat
    isplitl [Htk] <;> iassumption

/-- All devices at once: every cell's invariant set up, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_ne_xfer (a c : Dev nD) (b k : Bool) (h : Fin 3) : xCell c b k h ≠ barCell a := fun e => by cases congrArg Prod.snd e
theorem bar_eq_iff (a c : Dev nD) : barCell a = barCell c ↔ a = c :=
  ⟨fun h => congrArg (fun g : GSem nD τ sig => g.1.1) h, fun h => h ▸ rfl⟩
theorem xfer_eq_iff (a c : Dev nD) (b b' : Bool) (h h' : Fin 3) : xCell a b true h = xCell c b' true h' ↔ a = c ∧ b = b' ∧ h = h' := by
  refine ⟨fun e => ⟨congrArg (fun g : GSem nD τ sig => g.1.1) e, ?_⟩, fun ⟨h1, h2, h3⟩ => by rw [h1, h2, h3]⟩
  have e2 := congrArg (fun g : GSem nD τ sig => xferOf g.2) e
  simp only [xferOf_xsem, Option.some.injEq, Prod.mk.injEq, true_and] at e2
  exact e2
theorem peer_iff : ∀ (b : Bool) (c d : Dev nD), c = peer b d ↔ d = peer (!b) c := by decide
theorem nxt_iff : ∀ c d : Dev nD, c = nxt d ↔ d = prv c := by decide
theorem prv_iff : ∀ c d : Dev nD, c = prv d ↔ d = nxt c := by decide

theorem oweL_bar (d c : Dev nD) : ∀ l, oweL d l (barCell c) () = 0
  | [] => rfl
  | x :: l => by
    show (oweL d l + tallyAt (xCell (peer x.1 d) x.1 true x.2) () N : CellTallies nD τ sig Unit) _ _ = _
    rw [Pi.add_apply, Finsupp.add_apply, oweL_bar d c l, tallyAt_ne_cell (fun h => bar_ne_xfer _ _ _ _ _ h.symm)]; rfl
theorem owed_bar (d c : Dev nD) : O₀ d (barCell c) () = (if d = prv c then 1 else 0) + (if d = nxt c then 1 else 0) := by
  unfold O₀ O₁
  simp only [Pi.add_apply, Finsupp.add_apply, oweL_bar, tallyAt_apply, bar_eq_iff, and_true, Nat.zero_add]
  rw [if_congr (nxt_iff c d) rfl rfl, if_congr (prv_iff c d) rfl rfl]
theorem oweL_recv (d c : Dev nD) (b : Bool) (h : Fin 3) : ∀ l : List (Bool × Fin 3), l.Nodup →
    oweL d l (xCell c b true h) () = if (b, h) ∈ l ∧ d = peer (!b) c then N else 0
  | [], _ => by rw [if_neg fun h => by cases h.1]; rfl
  | x :: l, hl => by
    show (oweL d l + tallyAt (xCell (peer x.1 d) x.1 true x.2) () N : CellTallies nD τ sig Unit) _ _ = _
    rw [Pi.add_apply, Finsupp.add_apply, oweL_recv d c b h l (List.nodup_cons.mp hl).2, tallyAt_apply]
    obtain ⟨hx, -⟩ := List.nodup_cons.mp hl
    by_cases hb : (b, h) = x
    · subst hb
      simp only [hx, xfer_eq_iff, and_true, false_and, if_false, List.mem_cons, true_or, true_and, Nat.zero_add]
      exact if_congr (peer_iff b c d) rfl rfl
    · have : ¬ (b = x.1 ∧ h = x.2) := fun e => hb (Prod.ext e.1 e.2)
      simp only [xfer_eq_iff, and_true, this, and_false, if_false, Nat.add_zero, List.mem_cons, hb, false_or]
theorem owed_recv (d c : Dev nD) (b : Bool) (h : Fin 3) : O₀ d (xCell c b true h) () = if d = peer (!b) c then N else 0 := by
  have hm : ∀ (b : Bool) (h : Fin 3), (b, h) ∈ hops := by decide
  unfold O₀ O₁
  rw [Pi.add_apply, Finsupp.add_apply, Pi.add_apply, Finsupp.add_apply, tallyAt_ne_cell (bar_ne_xfer _ _ _ _ _), tallyAt_ne_cell (bar_ne_xfer _ _ _ _ _),
    oweL_recv d c b h hops (by decide), Finsupp.zero_apply, Nat.add_zero, Nat.add_zero]
  simp only [hm, true_and]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (b : Bool) (h : Fin 3) :
    tallyOn (xCell c b true h) (launchCredit (Pipeline.owing O₀) 0 (xCell c b true h)) = (tallyAt (xCell c b true h) () N : CellTallies nD τ sig Unit) := by
  unfold tallyAt; refine congrArg _ (Finsupp.ext fun u => ?_); cases u
  rw [Pipeline.launchCredit_owing, Finsupp.single_eq_same, Finset.sum_congr rfl fun d _ => owed_recv d c b h,
    Finset.sum_ite_eq' Finset.univ (peer (!b) c) fun _ => N, if_pos (Finset.mem_univ _)]

/-- The hops' arrivals, as semaphores. -/
def arrSem : Bool × Fin 3 ↪ SemLoc sig := ⟨fun x => .dma (xsem x.1 true x.2), by unfold Function.Injective; decide⟩

theorem creds (c : Dev nD) :
    (Pipeline.launchCred O₀ c : sProp 𝕄)
      ⊢ iprop(cred (tallyAt (barCell c) () 2) ∗ bigSep Finset.univ fun x : Bool × Fin 3 => cred (tallyAt (xCell c x.1 true x.2) () N)) := by
  unfold Pipeline.launchCred
  rw [bigSep_univ_at _ (SemLoc.reg barS), launch_bar]
  refine sep_mono_right ((bigSep_subset (t := Finset.univ.map arrSem) fun s hs => ?_).trans ?_)
  · obtain ⟨x, -, rfl⟩ := Finset.mem_map.mp hs
    exact Finset.mem_erase.mpr ⟨(fun h => by cases h), Finset.mem_univ _⟩
  · rw [bigSep_map]
    exact bigSep_mono fun x _ => Entails.of_eq (congrArg cred (launch_recv c x.1 x.2))

/-- What a device needs for the barrier and the hops, put together. -/
theorem ringIn_intro (c : Dev nD) :
    iprop((bigSep Finset.univ fun k : Fin 13 => atPos ER (kcell (c, k)) 0 ∅ 0) ∗ payToks c
        ∗ cred (tallyAt (barCell c) () 2) ∗ bigSep Finset.univ fun x : Bool × Fin 3 => cred (tallyAt (xCell c x.1 true x.2) () N))
      ⊢ (ringIn c : sProp 𝕄) := by
  unfold ringIn
  rw [← bigSep_hops (hopG c), bigSep_cells fun g => atPos ER g 0 ∅ 0]
  unfold payToks hopG both
  simp only [bigSep_sep']
  iintro ⟨⟨Ab, As, Ar⟩, ⟨⟨Tp, Tn⟩, Ts, Tr⟩, Cb, Cr⟩
  isplitl [Ab Tp Tn Cb]
  · isplitl [Cb]; · iexact Cb
    isplitl [Ab]; · iexact Ab
    isplitl [Tp] <;> iassumption
  isplitl [Ts]; · iexact Ts
  isplitl [Tr]; · iexact Tr
  isplitl [Cr]; · iexact Cr
  isplitl [As] <;> iassumption

theorem ringOut_elim (c : Dev nD) : (ringOut c : sProp 𝕄) ⊢ iprop(semVal (barCell c) 0 ∗ bigSep Finset.univ (hopZ c)) := by
  unfold ringOut; rw [bigSep_hops]

end Cert.KernelIdealProof

end
-- ==== Proof.KI.Run.lean ====
/- The launch: the working buffers cut into slots and stages, the body's run on every device, and what every final state
   holds. -/
module

public import proofs.«01_k».proof.Proof.KI.Ghost
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Slots and stages of the working buffers -/

theorem mem_rR (i : Fin 4) (x : S4x1024x1024.Idx) : x ∈ (rR i).set ↔ x 0 = i := by
  rw [Rect.mem_set_unit]
  constructor
  · intro h
    have h0 : i.val ≤ (x 0).val ∧ (x 0).val < i.val + 1 := h 0
    exact Fin.ext (by omega)
  · rintro rfl a
    match a with
    | ⟨0, _⟩ => exact ⟨le_refl _, Nat.lt_succ_self _⟩
    | ⟨1, _⟩ => exact ⟨Nat.zero_le _, (Nat.zero_add _).symm ▸ (x 1).isLt⟩
    | ⟨2, _⟩ => exact ⟨Nat.zero_le _, (Nat.zero_add _).symm ▸ (x 2).isLt⟩
theorem mem_gR (i : Fin 2) (x : S2x8x64x8x128.Idx) : x ∈ (gR i).set ↔ x 0 = i := by
  rw [Rect.mem_set_unit]
  constructor
  · intro h
    have h0 : i.val ≤ (x 0).val ∧ (x 0).val < i.val + 1 := h 0
    exact Fin.ext (by omega)
  · rintro rfl a
    match a with
    | ⟨0, _⟩ => exact ⟨le_refl _, Nat.lt_succ_self _⟩
    | ⟨1, _⟩ => exact ⟨Nat.zero_le _, (Nat.zero_add _).symm ▸ (x 1).isLt⟩
    | ⟨2, _⟩ => exact ⟨Nat.zero_le _, (Nat.zero_add _).symm ▸ (x 2).isLt⟩
    | ⟨3, _⟩ => exact ⟨Nat.zero_le _, (Nat.zero_add _).symm ▸ (x 3).isLt⟩
    | ⟨4, _⟩ => exact ⟨Nat.zero_le _, (Nat.zero_add _).symm ▸ (x 4).isLt⟩
theorem rR_disj (i j : Fin 4) (h : i ≠ j) : Disjoint (rR i).set (rR j).set :=
  Finset.disjoint_left.mpr fun x h1 h2 => h (((mem_rR i x).mp h1).symm.trans ((mem_rR j x).mp h2))
theorem rR_cover : (Finset.univ : Finset (Fin 4)).biUnion (fun i => (rR i).set) = Finset.univ :=
  Finset.eq_univ_of_forall fun x => Finset.mem_biUnion.mpr ⟨x 0, Finset.mem_univ _, (mem_rR _ x).mpr rfl⟩
theorem gR_disj (i j : Fin 2) (h : i ≠ j) : Disjoint (gR i).set (gR j).set :=
  Finset.disjoint_left.mpr fun x h1 h2 => h (((mem_gR i x).mp h1).symm.trans ((mem_gR j x).mp h2))
theorem gR_cover : (Finset.univ : Finset (Fin 2)).biUnion (fun i => (gR i).set) = Finset.univ :=
  Finset.eq_univ_of_forall fun x => Finset.mem_biUnion.mpr ⟨x 0, Finset.mem_univ _, (mem_gR _ x).mpr rfl⟩

/-- A ring buffer is its four slots, -/
theorem slots_split (c : Dev nD) (b : Bool) (X : S4x1024x1024.Idx → Elt F .bf16) :
    (owns (c : Thread nD τ) (rM b) fullShare X : sProp 𝕄)
      ⊢ iprop((∃ X, slotP fullShare c b 0 X) ∗ (∃ X, slotP fullShare c b 1 X) ∗ (∃ X, slotP fullShare c b 2 X) ∗ (∃ X, slotP fullShare c b 3 X)) := by
  refine (owns_rects (c : Thread nD τ) (rM b) fullShare rR (fun _ _ => rfl) rR_disj rR_cover X).trans ?_
  rw [bigSep_univ_eq_bigSepL [0, 1, 2, 3] (by decide) (by decide)]
  refine (show _ ⊢ (iprop(slotP fullShare c b 0 _ ∗ slotP fullShare c b 1 _ ∗ slotP fullShare c b 2 _ ∗ slotP fullShare c b 3 _) : sProp 𝕄) from .rfl).trans ?_
  iintro ⟨H0, H1, H2, H3⟩
  isplitl [H0]; · iexists _; iexact H0
  isplitl [H1]; · iexists _; iexact H1
  isplitl [H2]; · iexists _; iexact H2
  iexists _; iexact H3
/-- and back. -/
theorem slots_join (c : Dev nD) (b : Bool) (X : Fin 4 → Vec F S1x1024x1024 .bf16) :
    (iprop(slotP fullShare c b 0 (X 0) ∗ slotP fullShare c b 1 (X 1) ∗ slotP fullShare c b 2 (X 2) ∗ slotP fullShare c b 3 (X 3)) : sProp 𝕄)
      ⊢ iprop(∃ Y : S4x1024x1024.Idx → Elt F .bf16, owns (c : Thread nD τ) (rM b) fullShare Y) := by
  let Y : S4x1024x1024.Idx → Elt F .bf16 := fun x => X (x 0) (ValueIdx.ix3 0 (x 1) (x 2))
  have hY : ∀ i : Fin 4, (fun j => Y ((rR i).emb j)) = X i := fun i => funext fun j => by
    have h0 : (rR i).emb j 0 = i := (mem_rR i _).mp (Rect.map_emb_univ _ ▸ Finset.mem_map_of_mem _ (Finset.mem_univ j))
    show X ((rR i).emb j 0) _ = _
    rw [h0]
    refine congrArg (X i) (funext fun a => ?_)
    match a with
    | ⟨0, _⟩ => exact Fin.ext (by have : (j 0).val < 1 := (j 0).isLt; show 0 = (j 0).val; omega)
    | ⟨1, _⟩ => exact Fin.ext ((Nat.zero_add _).trans (Nat.one_mul _))
    | ⟨2, _⟩ => exact Fin.ext ((Nat.zero_add _).trans (Nat.one_mul _))
  refine BIBase.Entails.trans ?_ (exists_intro Y)
  refine BIBase.Entails.trans ?_ (owns_of_rects (c : Thread nD τ) (rM b) fullShare rR (fun _ _ => rfl) rR_disj rR_cover Y)
  rw [bigSep_univ_eq_bigSepL [0, 1, 2, 3] (by decide) (by decide)]
  simp only [hY]
  exact .rfl

theorem stages_split (c : Dev nD) (b : Bool) (X : S2x8x64x8x128.Idx → Elt F .f32) :
    (owns (c : Thread nD τ) (gM b) fullShare X : sProp 𝕄) ⊢ iprop((∃ X, stageP c b 0 X) ∗ (∃ X, stageP c b 1 X)) := by
  refine (owns_rects (c : Thread nD τ) (gM b) fullShare gR (fun _ _ => rfl) gR_disj gR_cover X).trans ?_
  rw [bigSep_univ_eq_bigSepL [0, 1] (by decide) (by decide)]
  refine (show _ ⊢ (iprop(stageP c b 0 _ ∗ stageP c b 1 _) : sProp 𝕄) from .rfl).trans ?_
  iintro ⟨H0, H1⟩
  isplitl [H0]; · iexists _; iexact H0
  iexists _; iexact H1
theorem stages_join (c : Dev nD) (b : Bool) (X : Fin 2 → Vec F S1x8x64x8x128 .f32) :
    (iprop(stageP c b 0 (X 0) ∗ stageP c b 1 (X 1)) : sProp 𝕄)
      ⊢ iprop(∃ Y : S2x8x64x8x128.Idx → Elt F .f32, owns (c : Thread nD τ) (gM b) fullShare Y) := by
  let Y : S2x8x64x8x128.Idx → Elt F .f32 := fun x => X (x 0) (ValueIdx.ix5 0 (x 1) (x 2) (x 3) (x 4))
  have hY : ∀ i : Fin 2, (fun j => Y ((gR i).emb j)) = X i := fun i => funext fun j => by
    have h0 : (gR i).emb j 0 = i := (mem_gR i _).mp (Rect.map_emb_univ _ ▸ Finset.mem_map_of_mem _ (Finset.mem_univ j))
    show X ((gR i).emb j 0) _ = _
    rw [h0]
    refine congrArg (X i) (funext fun a => ?_)
    match a with
    | ⟨0, _⟩ => exact Fin.ext (by have : (j 0).val < 1 := (j 0).isLt; show 0 = (j 0).val; omega)
    | ⟨1, _⟩ => exact Fin.ext ((Nat.zero_add _).trans (Nat.one_mul _))
    | ⟨2, _⟩ => exact Fin.ext ((Nat.zero_add _).trans (Nat.one_mul _))
    | ⟨3, _⟩ => exact Fin.ext ((Nat.zero_add _).trans (Nat.one_mul _))
    | ⟨4, _⟩ => exact Fin.ext ((Nat.zero_add _).trans (Nat.one_mul _))
  refine BIBase.Entails.trans ?_ (exists_intro Y)
  refine BIBase.Entails.trans ?_ (owns_of_rects (c : Thread nD τ) (gM b) fullShare gR (fun _ _ => rfl) gR_disj gR_cover Y)
  rw [bigSep_univ_eq_bigSepL [0, 1] (by decide) (by decide)]
  simp only [hY]
  exact .rfl

/-- A whole buffer at some contents, owned. -/
theorem whole_some (c : Dev nD) (b : Ref sig .tc) :
    (iprop(∃ f : Buf (Elt F) ((c : Thread nD τ).loc b), ((c : Thread nD τ).loc b) ↦{fullShare} f) : sProp 𝕄)
      ⊢ iprop(∃ X : b.ty.Contents (Elt F), owns (c : Thread nD τ) (Memref.whole b) fullShare X) := by
  iintro ⟨%f, H⟩
  iexists f
  rw [owns_whole_eq]
  iexists f
  isplitr; · (ipureintro; rfl)
  iexact H
theorem some_whole (c : Dev nD) (b : Ref sig .tc) :
    (iprop(∃ X : b.ty.Contents (Elt F), owns (c : Thread nD τ) (Memref.whole b) fullShare X) : sProp 𝕄)
      ⊢ iprop(∃ f : Buf (Elt F) ((c : Thread nD τ).loc b), ((c : Thread nD τ).loc b) ↦{fullShare} f) := by
  iintro ⟨%X, H⟩
  ihave H := (Entails.of_eq (owns_whole_eq (c : Thread nD τ) b fullShare X)) $$ H
  icases H with ⟨%f, -, H⟩
  iexists f; iexact H

theorem workIn_intro (c : Dev nD) : iprop(Pipeline.scopedRest cfg0.spec c ∗ restP c) ⊢ (workIn m c : sProp 𝕄) := by
  rw [scopedRest0_eq]
  unfold restP workIn landsP landP frees freeP ctxP keptP known
  iintro ⟨⟨R0, R1, S0, S1, C, K⟩, Z0, Z1, Z2, Z3⟩
  ihave R0 := (whole_some c cc0_scratch0) $$ R0
  icases R0 with ⟨%X0, R0⟩
  ihave R0 := (slots_split c false X0) $$ R0
  icases R0 with ⟨A0, A1, A2, A3⟩
  ihave R1 := (whole_some c cc0_scratch1) $$ R1
  icases R1 with ⟨%X1, R1⟩
  ihave R1 := (slots_split c true X1) $$ R1
  icases R1 with ⟨B0, B1, B2, B3⟩
  ihave S0 := (whole_some c cc0_scratch2) $$ S0
  icases S0 with ⟨%X2, S0⟩
  ihave S0 := (stages_split c false X2) $$ S0
  icases S0 with ⟨S0, S0'⟩
  ihave S1 := (whole_some c cc0_scratch3) $$ S1
  icases S1 with ⟨%X3, S1⟩
  ihave S1 := (stages_split c true X3) $$ S1
  icases S1 with ⟨S1, S1'⟩
  ihave C := (whole_some c cc0_scratch4) $$ C
  icases C with ⟨%X4, C⟩
  ihave K := (whole_some c cc0_scratch5) $$ K
  icases K with ⟨%X5, K⟩
  isplitl [A0]; · iexact A0
  isplitl [B0]; · iexact B0
  isplitl [A1 A2 A3]
  · isplitl [A3]; · iexact A3
    isplitl [A2]; · iexact A2
    iexact A1
  isplitl [B1 B2 B3]
  · isplitl [B1]; · iexact B1
    isplitl [B2]; · iexact B2
    iexact B3
  isplitl [S0 Z0 S1 Z2]
  · isplitl [S0 Z0]
    · isplitl [S0]; · iexact S0
      iexact Z0
    isplitl [S1]; · iexact S1
    iexact Z2
  isplitl [S0' Z1 S1' Z3]
  · isplitl [S0' Z1]
    · isplitl [S0']; · iexact S0'
      iexact Z1
    isplitl [S1']; · iexact S1'
    iexact Z3
  isplitl [C]
  · iexists X4
    isplitr; · ipureintro; intro i hi; omega
    iexact C
  iexists X5
  isplitr; · ipureintro; intro i hi; omega
  iexact K

theorem workOut_elim (c : Dev nD) : (workOut m c : sProp 𝕄) ⊢ iprop(Pipeline.scopedRest cfg0.spec c ∗ restP c) := by
  rw [scopedRest0_eq]
  unfold restP workOut frees freeP ctxP keptP known
  iintro ⟨HA, HB, ⟨⟨⟨%Y0, S0⟩, Z0⟩, ⟨%Y1, S1⟩, Z2⟩, ⟨⟨⟨%Y0', S0'⟩, Z1⟩, ⟨%Y1', S1'⟩, Z3⟩, ⟨%X4, -, C⟩, ⟨%X5, -, K⟩⟩
  isplitr [Z0 Z1 Z2 Z3]; rotate_left
  · isplitl [Z0]; · iexact Z0
    isplitl [Z1]; · iexact Z1
    isplitl [Z2]; · iexact Z2
    iexact Z3
  isplitl [HA]
  · iapply (some_whole c cc0_scratch0); iapply (slots_join c false (wAt m false c)); iexact HA
  isplitl [HB]
  · iapply (some_whole c cc0_scratch1); iapply (slots_join c true (wAt m true c)); iexact HB
  isplitl [S0 S0']
  · iapply (some_whole c cc0_scratch2); iapply (stages_join c false ![Y0, Y0'])
    isplitl [S0]; · iexact S0
    iexact S0'
  isplitl [S1 S1']
  · iapply (some_whole c cc0_scratch3); iapply (stages_join c true ![Y1, Y1'])
    isplitl [S1]; · iexact S1
    iexact S1'
  isplitl [C]
  · iapply (some_whole c cc0_scratch4); iexists X4; iexact C
  iapply (some_whole c cc0_scratch5); iexists X5; iexact K

/-! ## The body's obligation -/

/-- What a device starts from, and what it ends with. -/
def start (c : Dev nD) : sProp 𝕄 := iprop((∃ K, records m K ∗ ringIn c) ∗ restP c ∗ levAts L lv ∗ homes m c)
def Φ₀ (c : Dev nD) : sProp 𝕄 := iprop((∃ K, records m K ∗ ringIn c) ∗ levAts L lv ∗ workIn m c ∗ homes m c)
def Φ₁ (c : Dev nD) : sProp 𝕄 := iprop(ringOut c ∗ workOut m c ∗ homes m c)

/-- The pipeline's data: the arrays at launch, what each staged block holds after the body. -/
def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => wStg m false c
    | ⟨2, _⟩ => wStg m true c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_x (c : Dev nD) (d) : (dats (F := F) m 0 c).before (0 : Fin 4) t0_0 d = xStg m c := by
  unfold Dat.before; rw [if_pos (fetch0_0 t0_0)]; rfl
theorem before_wq (c : Dev nD) (d) : (dats (F := F) m 0 c).before (1 : Fin 4) t0_0 d = wStg m false c := by
  unfold Dat.before; rw [if_pos (fetch0_1 t0_0)]; rfl
theorem before_wo (c : Dev nD) (d) : (dats (F := F) m 0 c).before (2 : Fin 4) t0_0 d = wStg m true c := by
  unfold Dat.before; rw [if_pos (fetch0_2 t0_0)]; rfl

def bodyPre (c : Dev nD) : sProp 𝕄 :=
  iprop(Φ₀ m c ∗ (dats m 0 c).owesAt () t0_0.castSucc
    ∗ (∃ d, owns (c : Thread nD τ) xM fullShare ((dats m 0 c).before (0 : Fin 4) t0_0 d))
    ∗ (∃ d, owns (c : Thread nD τ) (wM false) fullShare ((dats m 0 c).before (1 : Fin 4) t0_0 d))
    ∗ (∃ d, owns (c : Thread nD τ) (wM true) fullShare ((dats m 0 c).before (2 : Fin 4) t0_0 d))
    ∗ (∃ d, owns (c : Thread nD τ) oM fullShare ((dats m 0 c).before (3 : Fin 4) t0_0 d)))
def bodyPost (c : Dev nD) : sProp 𝕄 :=
  iprop(Φ₁ m c ∗ (dats m 0 c).owesAt () t0_0.succ
    ∗ owns (c : Thread nD τ) xM fullShare (xStg m c) ∗ owns (c : Thread nD τ) (wM false) fullShare (wStg m false c)
    ∗ owns (c : Thread nD τ) (wM true) fullShare (wStg m true c) ∗ owns (c : Thread nD τ) oM fullShare (outAt m c))

theorem sound_body (c : Dev nD) : bodyPre m c ⊢ WP c (body (F := F)) (fun _ => bodyPost m c) := by
  unfold bodyPre Φ₀ Dat.owesAt Pipeline.owesWithin
  rw [show (dats m 0 c).owed t0_0.castSucc = O₀ c from rfl]
  iintro ⟨⟨⟨%K, #HR, Hring⟩, #Hlev, Hwork, Hh⟩, ⟨%W, -, HO⟩, ⟨%d0, Hx⟩, ⟨%d1, Hq⟩, ⟨%d2, Ho⟩, ⟨%d3, Hout⟩⟩
  rw [before_x, before_wq, before_wo]
  iapply (wp_last (wp_body m K c ((dats m 0 c).before (3 : Fin 4) t0_0 d3))) $$ [Hring Hwork Hh HO Hx Hq Ho Hout]
  · isplitr; · iexact HR
    isplitr; · iexact Hlev
    isplitl [HO]; · unfold owing; iexists W; iexact HO
    isplitl [Hring]; · iexact Hring
    isplitl [Hwork]; · iexact Hwork
    isplitl [Hh]; · iexact Hh
    isplitl [Hx Hq Ho]
    · unfold stagedIn
      isplitl [Hx]; · iexact Hx
      isplitl [Hq] <;> iassumption
    iexact Hout
  unfold owing stagedIn
  iintro %_ ⟨⟨%W', HO⟩, Hring, Hwork, Hh, ⟨Hx, Hq, Ho⟩, Hout⟩
  unfold bodyPost Φ₁ Dat.owesAt Pipeline.owesWithin
  rw [show (dats m 0 c).owed t0_0.succ = 0 from rfl]
  isplitl [Hring Hwork Hh]
  · isplitl [Hring]; · iexact Hring
    isplitl [Hwork] <;> iassumption
  isplitl [HO]
  · iexists W'
    isplitr; · ipureintro; exact fun _ _ => Or.inl trivial
    iexact HO
  isplitl [Hx]; · iexact Hx
  isplitl [Hq]; · iexact Hq
  isplitl [Ho] <;> iassumption

set_option maxRecDepth 100000 in
theorem body_obligation (c : Dev nD) : BodyObligation (dats (F := F) m 0 c) (defs₀ (F := F)) 𝒱₀ () Set.univ := fun t => by
  rw [fin_N0 t]
  rw [show (bigSep (Finset.univ : Finset (Fin cfg0.W)) : (Fin cfg0.W → sProp 𝕄) → sProp 𝕄) = bigSep (Finset.univ : Finset (Fin 4)) from rfl, bigSep_W0, bigSep_W0]
  show bodyPre m c ⊢ wp frame (wpE (defs₀ (F := F)) 𝒱₀ c none) Set.univ (bodyAt0 (F := F) t0_0) (fun _ => bodyPost m c)
  rw [body_eq]
  exact sound_body m c

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' linear
  iintro ⟨⟨Hk, Hv⟩, Hlev, Hcr, -, ⟨%K, HR, Hat, Hpay, Hrest⟩⟩
  ihave Hc := (creds (F := F) c) $$ Hcr
  icases Hc with ⟨H1, HN⟩
  imodintro
  unfold start
  isplitl
  · isplitl [HR Hat Hpay H1 HN]
    · iexists K
      isplitl [HR]; · iexact HR
      iapply (ringIn_intro (F := F) c)
      isplitl [Hat]; · iexact Hat
      isplitl [Hpay]; · iexact Hpay
      isplitl [H1] <;> iassumption
    isplitl [Hrest]; · iexact Hrest
    isplitl [Hlev]; · iexact Hlev
    unfold homes homeP hX
    isplitl [Hk]
    · rw [owns_whole_eq]
      iexists (m ((c : Thread nD τ).loc main_arg2))
      isplitr; · (ipureintro; rfl)
      iexact Hk
    · rw [owns_whole_eq]
      iexists (m ((c : Thread nD τ).loc main_arg3))
      isplitr; · (ipureintro; rfl)
      iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ start
  iintro ⟨⟨Hg, Hrest, Hlev, Hh⟩, -, Hs⟩
  isplitl [Hg]; · iexact Hg
  isplitl [Hlev]; · iexact Hlev
  isplitl [Hrest Hs]
  · iapply (workIn_intro m c); isplitl [Hs] <;> iassumption
  iexact Hh

theorem phi1_exit (c : Dev nD) :
    (dats m 0 c).Φ (Fin.last cfg0.N) ⊢ iprop((unscopedSems0 c ∗ homes m c) ∗ Pipeline.ownSems0 osem c ∗ Pipeline.scopedRest cfg0.spec c) := by
  rw [show (dats m 0 c).Φ (Fin.last cfg0.N) = Φ₁ m c from rfl, ownSems0_eq, unscopedSems0_eq]
  unfold Φ₁
  iintro ⟨Hr, Hw, Hh⟩
  ihave Hr := (ringOut_elim (F := F) c) $$ Hr
  icases Hr with ⟨Hb, Hx⟩
  ihave Hw := (workOut_elim m c) $$ Hw
  icases Hw with ⟨Hs, Hz⟩
  isplitl [Hb Hh]
  · isplitl [Hb] <;> iassumption
  isplitl [Hx Hz]
  · isplitl [Hx] <;> iassumption
  iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A device's K and V read from the state. -/
theorem homes_read (c : Dev nD) (s' : Phys nD τ sig (Elt F)) :
    iprop(homes m c ∗ SI s') ⊢ (|={Set.univ}=> iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold homes homeP hX
  rw [owns_whole_eq, owns_whole_eq]
  iintro ⟨⟨⟨%f, %hf, Hk⟩, ⟨%g, %hg, Hv⟩⟩, HSI⟩
  icombine HSI Hk gives %h1
  icombine HSI Hv gives %h2
  imodintro
  isplitr
  · ipureintro
    exact ⟨(Buf.eq_of_forall_mem_univ h1).trans hf, (Buf.eq_of_forall_mem_univ h2).trans hg⟩
  iexact HSI

/-! ## The run -/

/-- What every final state holds on device `c`: the result, and the arguments as they were. -/
def Ends (s : MemSt nD τ sig (Elt F)) (c : Dev nD) : Prop :=
  s.mem ((c : Thread nD τ).loc main_v1) = outAt m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem outArr (c : Dev nD) : (dats m 0 c).arrAt (3 : Fin 4) cfg0.N = outAt m c := by
  have h : (win0_3.blk (0 : Fin 1)).view.read (Elt F) ((dats m 0 c).arrAt (3 : Fin 4) cfg0.N) = outAt m c := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  refine Eq.trans ?_ h
  funext i
  show _ = (dats m 0 c).arrAt (3 : Fin 4) cfg0.N ((win0_3.blk (0 : Fin 1)).view.emb i)
  refine congrArg _ (funext fun a => Fin.ext ?_)
  match a with
  | ⟨0, _⟩ => show (i 0).val = 0 + 1 * (i 0).val; omega
  | ⟨1, _⟩ => show (i 1).val = 0 + 1 * (i 1).val; omega
  | ⟨2, _⟩ => show (i 2).val = 0 + 1 * (i 2).val; omega
  | ⟨3, _⟩ => show (i 3).val = 0 + 1 * (i 3).val; omega

set_option maxRecDepth 100000 in
/-- From any memory with zero counters, every weakly fair execution of the four devices ends, with the result computed,
    the arguments as they were and every counter at zero. -/
theorem run_main : θ_run defs (onTc (τ := τ) (main (F := F))) ⟨m, fun _ => 0, ρ⟩ (fun r => (∀ c, Ends m r.2 c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ homes m c)) (Z := fun _ => iprop(emp))
    (hX := start_intro m ρ) (hin := phi0_intro m) (hout := phi1_exit m)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨Hu, Hh⟩, -, HSI⟩
      imod (homes_read m c s') $$ [Hh HSI] with ⟨%h1, HSI⟩
      · isplitl [Hh] <;> iassumption
      imod (Pipeline.unscopedSems0_read (X := unscopedSems0 c) (c := c) fupd_intro s') $$ [Hu HSI] with ⟨%h2, HSI⟩
      · isplitl [Hu] <;> iassumption
      imodintro
      isplitr; · ipureintro; exact ⟨h1, h2⟩
      iexact HSI)
    (hQ := fun _ h hs => ⟨fun c => ⟨((h c).1 (3 : Fin 4)).trans (outArr m c), ((h c).1 (0 : Fin 4)).trans ((dats m 0 c).arrAt_in (0 : Fin 4) rfl _),
      ((h c).1 (1 : Fin 4)).trans ((dats m 0 c).arrAt_in (1 : Fin 4) rfl _), (h c).2.2.1.1, (h c).2.2.1.2,
      ((h c).1 (2 : Fin 4)).trans ((dats m 0 c).arrAt_in (2 : Fin 4) rfl _)⟩, sem_eq_zero hs fun c => (h c).2.2.2⟩)

end Cert.KernelIdealProof

end
-- ==== Proof.Value.Mask.lean ====
/- The reference's mask: query `q` keeps key `k` exactly when their blocks of 64 are congruent modulo 4. -/
module

public import proofs.«01_k».proof.Proof.Gen.ReferenceIdeal.Read
public import Idealize.ShloMosaic.Lib.Pointwise
public import Idealize.ShloMosaic.Lib.Routing.OpsOrder

@[expose] public section

noncomputable section

namespace Cert.RefValue

open Cert.ReferenceIdeal Cert.ReferenceIdeal.Gen Cert.ReferenceIdeal.Read
open Idealize.ShloMosaic

set_option maxRecDepth 16384 in
theorem v8_at (q : Fin 2048) : val_main_v8 (F := Ideal) (ix1 q) = BitVec.ofNat 32 (q.val / 64) := by
  pointwise [val_main_v8, val_main_call0_v11, val_main_call0_v6, val_main_call0_v3, val_main_v7, val_main_call0_v5, val_main_call0_v4, val_main_call0_v0,
    val_main_c, val_main_call0_v10, val_main_call0_v8, val_main_call0_v7, val_main_call0_v9, val_main_call0_c, val_main_call0_v13, val_main_call0_v2,
    val_main_call0_v1, val_main_call0_v12, val_main_call0_c_0]
  revert q
  decide +kernel

theorem v11_at (k : Fin 2048) : val_main_v11 (F := Ideal) (ix1 k) = BitVec.ofNat 32 (k.val / 64) := v8_at k

set_option maxRecDepth 16384 in
theorem v18_at (q k : Fin 2048) : val_main_v18 (F := Ideal) (ix2 q k) = BitVec.ofNat 32 (k.val / 64 % 4) := by
  pointwise [val_main_v18, val_main_v16, val_main_call2_v12, val_main_call2_v11, val_main_call2_v8, val_main_call2_v4, val_main_call2_v3, val_main_call2_v2,
    val_main_call2_v1, val_main_call2_v0, val_main_c_1, val_main_call2_c, val_main_call2_c_0, val_main_call2_v5, val_main_call2_c_1, val_main_call2_v6,
    val_main_call2_c_2, val_main_call2_v7, val_main_call2_c_3, val_main_call2_v9, val_main_call2_v10, val_main_call2_v13, val_main_call2_v14, val_main_v12]
  rw [v11_at]
  revert k
  decide +kernel

set_option maxRecDepth 16384 in
theorem v19_at (q k : Fin 2048) : val_main_v19 (F := Ideal) (ix2 q k) = BitVec.ofNat 32 (q.val / 64 % 4) := by
  pointwise [val_main_v19, val_main_v17, val_main_call3_v12, val_main_call3_v11, val_main_call3_v8, val_main_call3_v4, val_main_call3_v3, val_main_call3_v2,
    val_main_call3_v1, val_main_call3_v0, val_main_c_2, val_main_call3_c, val_main_call3_c_0, val_main_call3_v5, val_main_call3_c_1, val_main_call3_v6,
    val_main_call3_c_2, val_main_call3_v7, val_main_call3_c_3, val_main_call3_v9, val_main_call3_v10, val_main_call3_v13, val_main_call3_v14, val_main_v9]
  rw [v8_at]
  revert q
  decide +kernel

theorem v13_at (q k : Fin 2048) : val_main_v13 (F := Ideal) (ix2 q k) = BitVec.ofNat 32 (q.val / 64) := by
  pointwise [val_main_v13, val_main_v9]
  exact v8_at q

theorem v14_at (q k : Fin 2048) : val_main_v14 (F := Ideal) (ix2 q k) = BitVec.ofNat 32 (k.val / 64) := by
  pointwise [val_main_v14, val_main_v12]
  exact v11_at k

theorem ofNat_eq_iff {a b : Nat} (ha : a < 2048) (hb : b < 2048) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt (by omega), Nat.mod_eq_of_lt (by omega)] at this

/-- Query `q` keeps key `k`. -/
abbrev Keeps (q k : Fin 2048) : Prop := k.val / 64 % 4 = q.val / 64 % 4

theorem v21_at (q k : Fin 2048) : val_main_v21 (F := Ideal) (ix2 q k) = BitVec.ofBool (decide (Keeps q k)) := by
  pointwise [val_main_v21, val_main_v20, val_main_v15]
  rw [v13_at, v14_at, v18_at, v19_at]
  have hq := q.isLt
  have hk := k.isLt
  by_cases h : Keeps q k
  · have e : BitVec.ofNat 32 (k.val / 64 % 4) = BitVec.ofNat 32 (q.val / 64 % 4) := congrArg _ h
    rw [e, decide_eq_true h]
    by_cases h' : BitVec.ofNat 32 (q.val / 64) = BitVec.ofNat 32 (k.val / 64)
    · simp [IntOp.cmpi, IntOp.ori, h']
    · simp [IntOp.cmpi, IntOp.ori, beq_eq_false_iff_ne.mpr h']
  · have e : ¬ BitVec.ofNat 32 (k.val / 64 % 4) = BitVec.ofNat 32 (q.val / 64 % 4) := fun e => h ((ofNat_eq_iff (by omega) (by omega)).mp e)
    have e' : ¬ BitVec.ofNat 32 (q.val / 64) = BitVec.ofNat 32 (k.val / 64) := fun e => h (by
      have := (ofNat_eq_iff (by omega) (by omega)).mp e
      show k.val / 64 % 4 = q.val / 64 % 4
      rw [this])
    rw [decide_eq_false h]
    simp [IntOp.cmpi, IntOp.ori, beq_eq_false_iff_ne.mpr e, beq_eq_false_iff_ne.mpr e']

/-- Every query keeps a key. -/
theorem v33_at (q : Fin 2048) : val_main_v33 (F := Ideal) (ix1 q) = 1#1 := by
  unfold val_main_v33
  generalize hy : val_main_v21 (F := Ideal) = y
  pointwise [val_main_c_5]
  rw [Routing.fold_ori]
  exact ⟨q, Finset.mem_univ q, by rw [← hy, v21_at, decide_eq_true (rfl : Keeps q q)]; rfl⟩

end Cert.RefValue

end
-- ==== Proof.Value.Ref.lean ====
/- The reference, read at an index: masked attention weights, contexts, and their product with the output weights. -/
module

public import proofs.«01_k».proof.Proof.Value.Mask

@[expose] public section

noncomputable section

namespace Cert.RefValue

open Cert.ReferenceIdeal Cert.ReferenceIdeal.Gen Cert.ReferenceIdeal.Read
open Idealize.ShloMosaic

/-- The queries' array, the query weights, K or V, and the output weights. -/
abbrev XArr := (⟨S8192x1024, .bf16⟩ : BufTy).Contents (Elt Ideal)
abbrev QArr := (⟨S1024x4096, .bf16⟩ : BufTy).Contents (Elt Ideal)
abbrev KArr := (⟨S4x8x4x64x32x128, .f32⟩ : BufTy).Contents (Elt Ideal)
abbrev OArr := (⟨S4096x1024, .bf16⟩ : BufTy).Contents (Elt Ideal)

/-- One entry of the queries. -/
def qv (x0 : XArr) (x1 : QArr) (b : Fin 4) (q : Fin 2048) (h : Fin 32) (d : Fin 128) : EReal :=
  ∑ t : Fin 1024, x0 (ix2 ⟨b.val * 2048 + q.val, by omega⟩ t) * x1 (ix2 t ⟨h.val * 128 + d.val, by omega⟩)

/-- One entry of K or V. -/
def kv (x2 : KArr) (b : Fin 4) (k : Fin 2048) (h : Fin 32) (d : Fin 128) : EReal :=
  x2 (ix6 b ⟨k.val / 256, by omega⟩ ⟨k.val / 64 % 4, by omega⟩ ⟨k.val % 64, by omega⟩ h d)

/-- The scale, 1/√128. -/
def scale : EReal := (((Real.sqrt 128)⁻¹ : ℝ) : EReal)

/-- One score. -/
def score (x0 : XArr) (x1 : QArr) (x2 : KArr) (b : Fin 4) (h : Fin 32) (q k : Fin 2048) : EReal :=
  (∑ d : Fin 128, qv x0 x1 b q h d * kv x2 b k h d) * scale

/-- A score under the mask. -/
def masked (x0 : XArr) (x1 : QArr) (x2 : KArr) (b : Fin 4) (h : Fin 32) (q k : Fin 2048) : EReal :=
  if Keeps q k then score x0 x1 x2 b h q k else ⊥

variable (x0 : XArr) (x1 : QArr) (x2 x3 : KArr) (x4 : OArr)

set_option maxRecDepth 16384 in
theorem v6_at (b : Fin 4) (q : Fin 2048) (h : Fin 32) (d : Fin 128) : val_main_v6 (F := Ideal) x0 x1 (ix4 b q h d) = qv x0 x1 b q h d := by
  pointwise [val_main_v6, val_main_v5, val_main_v1, val_main_v0, val_main_v4]
  rfl

set_option maxRecDepth 16384 in
theorem v2_at (b : Fin 4) (k : Fin 2048) (h : Fin 32) (d : Fin 128) : val_main_v2 (F := Ideal) x2 (ix4 b k h d) = kv x2 b k h d := by
  pointwise [val_main_v2]
  rfl

/-- Division by the root of the float 128 is multiplication by the scale. -/
theorem div_root (x : EReal) : Ideal.div x (Ideal.sqrt (Ideal.ofBits .f32 0x43000000#32)) = x * scale := by
  have h : Ideal.ofBits .f32 0x43000000#32 = ((128 : ℝ) : EReal) := by
    simp [Ideal.ofBits, Ideal.ieee, -EReal.coe_mul]
    norm_num
  have hr : Real.sqrt 128 ≠ 0 := (Real.sqrt_pos.mpr (by norm_num)).ne'
  rw [h, Ideal.sqrt_coe, if_neg (by norm_num), Ideal.div_coe hr, one_div]
  rfl

theorem ofBits_neg_inf : Ideal.ofBits .f32 0xFF800000#32 = ⊥ := by
  simp [Ideal.ofBits, Ideal.ieee]

theorem select_ofBool {α : Type} (p : Prop) [Decidable p] (x y : α) : Scalar.select (BitVec.ofBool (decide p)) x y = if p then x else y := by
  by_cases h : p
  · rw [decide_eq_true h, if_pos h]; rfl
  · rw [decide_eq_false h, if_neg h]; rfl

set_option maxRecDepth 16384 in
theorem v27_at (b : Fin 4) (h : Fin 32) (q k : Fin 2048) : val_main_v27 (F := Ideal) x0 x1 x2 (ix4 b h q k) = masked x0 x1 x2 b h q k := by
  pointwise [val_main_v27, val_main_call4_v1, val_main_call4_v2, val_main_call4_v0, val_main_v26, val_main_v25, val_main_v24, val_main_v23, val_main_cst, val_main_cst_3, val_main_v22]
  rw [v21_at, select_ofBool]
  simp only [v6_at, v2_at, div_root]
  exact congrArg (fun z => if Keeps q k then score x0 x1 x2 b h q k else z) ofBits_neg_inf

/-- The greatest score of a row. -/
def top (b : Fin 4) (h : Fin 32) (q : Fin 2048) : EReal := Finset.fold max ⊥ (fun k => masked x0 x1 x2 b h q k) Finset.univ

set_option maxRecDepth 16384 in
theorem v28_at (b : Fin 4) (h : Fin 32) (q : Fin 2048) : val_main_v28 (F := Ideal) x0 x1 x2 (ix3 b h q) = top x0 x1 x2 b h q := by
  unfold val_main_v28
  have e := v27_at x0 x1 x2 b h q
  revert e
  generalize val_main_v27 (F := Ideal) x0 x1 x2 = y
  intro e
  pointwise
  simp only [e]
  exact congrArg (fun z => Finset.fold max z (fun k => masked x0 x1 x2 b h q k) Finset.univ) ofBits_neg_inf

/-- The exponential of a masked score less the greatest. -/
def weight (b : Fin 4) (h : Fin 32) (q k : Fin 2048) : EReal := Ideal.exp (masked x0 x1 x2 b h q k - top x0 x1 x2 b h q)

set_option maxRecDepth 16384 in
theorem v32_at (b : Fin 4) (h : Fin 32) (q k : Fin 2048) : val_main_v32 (F := Ideal) x0 x1 x2 (ix4 b h q k) = weight x0 x1 x2 b h q k := by
  rw [weight, ← v27_at, ← v28_at]
  unfold val_main_v32 val_main_v31 val_main_v30 val_main_v29
  generalize val_main_v27 (F := Ideal) x0 x1 x2 = y
  generalize val_main_v28 (F := Ideal) x0 x1 x2 = z
  pointwise

set_option maxRecDepth 16384 in
theorem v35_at (b : Fin 4) (h : Fin 32) (q : Fin 2048) : val_main_v35 (F := Ideal) x0 x1 x2 (ix3 b h q) = ∑ k : Fin 2048, weight x0 x1 x2 b h q k := by
  unfold val_main_v35
  have e := v32_at x0 x1 x2 b h q
  revert e
  generalize val_main_v32 (F := Ideal) x0 x1 x2 = y
  intro e
  pointwise [val_main_cst_6]
  simp only [e]

set_option maxRecDepth 16384 in
theorem v37_at (b : Fin 4) (h : Fin 32) (q : Fin 2048) : val_main_v37 (F := Ideal) x0 x1 x2 (ix4 b h q 0) = ∑ k : Fin 2048, weight x0 x1 x2 b h q k := by
  rw [← v35_at]
  unfold val_main_v37 val_main_v36
  generalize val_main_v35 (F := Ideal) x0 x1 x2 = y
  pointwise [val_main_call5_v1, val_main_v34]
  rw [v33_at]
  rfl

set_option maxRecDepth 16384 in
theorem v38_at (b : Fin 4) (h : Fin 32) (q k : Fin 2048) :
    val_main_v38 (F := Ideal) x0 x1 x2 (ix4 b h q k) = ∑ k : Fin 2048, weight x0 x1 x2 b h q k := by
  rw [← v37_at]
  unfold val_main_v38
  generalize val_main_v37 (F := Ideal) x0 x1 x2 = z
  pointwise

theorem v39_at (b : Fin 4) (h : Fin 32) (q k : Fin 2048) :
    val_main_v39 (F := Ideal) x0 x1 x2 (ix4 b h q k) = Ideal.div (weight x0 x1 x2 b h q k) (∑ k : Fin 2048, weight x0 x1 x2 b h q k) := by
  rw [val_main_v39_apply, v32_at, v38_at]
  rfl

set_option maxRecDepth 16384 in
theorem call6_at (b : Fin 4) (h : Fin 32) (q k : Fin 2048) : val_main_call6_v1 (F := Ideal) (ix4 b h q k) = 1#1 := by
  pointwise [val_main_call6_v1, val_main_v40]
  exact v33_at q

theorem v41_at (b : Fin 4) (h : Fin 32) (q k : Fin 2048) :
    val_main_v41 (F := Ideal) x0 x1 x2 (ix4 b h q k) = Ideal.div (weight x0 x1 x2 b h q k) (∑ k : Fin 2048, weight x0 x1 x2 b h q k) := by
  rw [val_main_v41_apply, call6_at, v39_at]
  generalize Ideal.div (weight x0 x1 x2 b h q k) (∑ k : Fin 2048, weight x0 x1 x2 b h q k) = z
  rfl

/-- One entry of the contexts. -/
def context (b : Fin 4) (q : Fin 2048) (h : Fin 32) (d : Fin 128) : EReal :=
  ∑ k : Fin 2048, kv x3 b k h d * Ideal.div (weight x0 x1 x2 b h q k) (∑ k : Fin 2048, weight x0 x1 x2 b h q k)

set_option maxRecDepth 16384 in
theorem v47_at (i : Fin 32) (r : Fin 4) (t : Fin 64) (e : Fin 1024) :
    val_main_v47 (F := Ideal) x0 x1 x2 x3 x4 (ix4 i r t e)
      = ∑ j : Fin 4096, context x0 x1 x2 x3 ⟨i.val / 8, by omega⟩ ⟨i.val % 8 * 256 + r.val * 64 + t.val, by omega⟩ ⟨j.val / 128, by omega⟩ ⟨j.val % 128, by omega⟩ * x4 (ix2 j e) := by
  unfold val_main_v47 val_main_v46 val_main_v45 val_main_v44 val_main_v43 val_main_v42 val_main_v3
  have h := v41_at x0 x1 x2
  revert h
  generalize val_main_v41 (F := Ideal) x0 x1 x2 = y
  intro h
  pointwise
  simp only [h]
  rfl

end Cert.RefValue

end
-- ==== Proof.Value.Softmax.lean ====
/- Attention over a class of keys: masked weights normalised one by one and then applied, and the class's weights applied
   first and scaled once, give the same context. -/
module

public import Idealize.ShloMosaic.PureOps.Ideal

@[expose] public section

noncomputable section

namespace Cert.RefValue

open Idealize.ShloMosaic
open scoped BigOperators

/-- A finite sum of reals, in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- A finite sum scaled by a nonnegative real. -/
theorem sum_mul_coe {ι : Type} (s : Finset ι) (f : ι → EReal) {c : ℝ} (hc : 0 ≤ c) :
    (∑ i ∈ s, f i) * ((c : ℝ) : EReal) = ∑ i ∈ s, f i * ((c : ℝ) : EReal) := by
  classical
  induction s using Finset.induction_on with
  | empty => exact zero_mul _
  | insert a s ha ih =>
    rw [Finset.sum_insert ha, Finset.sum_insert ha, ← ih,
      EReal.right_distrib_of_nonneg_of_ne_top (EReal.coe_nonneg.mpr hc) (EReal.coe_ne_top c)]

/-- A quotient of reals, in the extended reals. -/
theorem div_coe (x : ℝ) {y : ℝ} (hy : y ≠ 0) : Ideal.div (x : EReal) (y : EReal) = ((x / y : ℝ) : EReal) := by
  have h : ¬ ((y : ℝ) : EReal) = 0 := fun h => hy (EReal.coe_eq_zero.mp h)
  rw [Ideal.div, if_neg h, ← EReal.coe_inv, ← EReal.coe_mul, div_eq_mul_inv]

section

variable {κ π : Type} [Fintype κ] [Fintype π] (keep : κ → Prop) [DecidablePred keep] (s : κ → ℝ) (v : κ → EReal) (e : π → κ)

/-- The greatest masked score is the score of a kept key. -/
theorem top_real (p₀ : π) (hkeep : ∀ p, keep (e p)) :
    ∃ M : ℝ, Finset.fold max (⊥ : EReal) (fun k => if keep k then ((s k : ℝ) : EReal) else ⊥) Finset.univ = (M : EReal) := by
  have hs : Finset.fold max (⊥ : EReal) (fun k => if keep k then ((s k : ℝ) : EReal) else ⊥) Finset.univ
      = Finset.univ.sup (fun k => if keep k then ((s k : ℝ) : EReal) else ⊥) := rfl
  rw [hs]
  obtain ⟨k, -, hk⟩ := Finset.exists_mem_eq_sup (Finset.univ : Finset κ) ⟨e p₀, Finset.mem_univ _⟩ (fun k => if keep k then ((s k : ℝ) : EReal) else ⊥)
  rw [hk]
  by_cases h : keep k
  · exact ⟨s k, if_pos h⟩
  · have hle := Finset.le_sup (f := fun k => if keep k then ((s k : ℝ) : EReal) else ⊥) (Finset.mem_univ (e p₀))
    rw [hk] at hle
    simp only [if_neg h, if_pos (hkeep p₀)] at hle
    exact absurd (le_bot_iff.mp hle) (EReal.coe_ne_bot _)

/-- A sum over the kept keys, over their numbering. -/
theorem sum_kept {β : Type} [AddCommMonoid β] (hinj : Function.Injective e) (hkeep : ∀ k, keep k ↔ ∃ p, e p = k) (f : κ → β) :
    (∑ k, if keep k then f k else 0) = ∑ p, f (e p) := by
  classical
  rw [← Finset.sum_filter]
  have : Finset.univ.filter keep = Finset.univ.image e := by
    ext k
    simp [hkeep]
  rw [this, Finset.sum_image (fun a _ b _ h => hinj h)]

theorem attention (p₀ : π) (hinj : Function.Injective e) (hkeep : ∀ k, keep k ↔ ∃ p, e p = k) (T : EReal)
    (hT : T = Finset.fold max (⊥ : EReal) (fun k => if keep k then ((s k : ℝ) : EReal) else ⊥) Finset.univ) :
    ∑ k, v k * Ideal.div (Ideal.exp ((if keep k then ((s k : ℝ) : EReal) else ⊥) - T))
        (∑ k, Ideal.exp ((if keep k then ((s k : ℝ) : EReal) else ⊥) - T))
      = (∑ p, Ideal.exp ((s (e p) : ℝ) : EReal) * v (e p)) * Ideal.div 1 (∑ p, Ideal.exp ((s (e p) : ℝ) : EReal)) := by
  obtain ⟨M, hM⟩ := top_real keep s e p₀ (fun p => (hkeep _).mpr ⟨p, rfl⟩)
  rw [hT, hM]
  have hw : ∀ k, Ideal.exp ((if keep k then ((s k : ℝ) : EReal) else ⊥) - (M : EReal))
      = (((if keep k then Real.exp (s k) else 0) * Real.exp (-M) : ℝ) : EReal) := fun k => by
    by_cases h : keep k
    · rw [if_pos h, if_pos h, ← EReal.coe_sub, ← Real.exp_add, ← sub_eq_add_neg]; rfl
    · rw [if_neg h, if_neg h, zero_mul, EReal.bot_sub]; rfl
  simp only [hw]
  have hS : (∑ p, Ideal.exp ((s (e p) : ℝ) : EReal)) = ((∑ p, Real.exp (s (e p)) : ℝ) : EReal) := coe_sum _ _
  have hpos : 0 < ∑ p, Real.exp (s (e p)) := Finset.sum_pos (fun p _ => Real.exp_pos _) ⟨p₀, Finset.mem_univ _⟩
  rw [coe_sum, ← Finset.sum_mul, sum_kept keep e hinj hkeep (fun k => Real.exp (s k)), hS]
  generalize hSS : ∑ p, Real.exp (s (e p)) = S at hpos
  have hE := Real.exp_pos (-M)
  have hd : ∀ k, v k * Ideal.div (((if keep k then Real.exp (s k) else 0) * Real.exp (-M) : ℝ) : EReal) ((S * Real.exp (-M) : ℝ) : EReal)
      = if keep k then v k * ((Real.exp (s k) / S : ℝ) : EReal) else 0 := fun k => by
    rw [div_coe _ (mul_pos hpos hE).ne', mul_div_mul_right _ _ hE.ne']
    by_cases h : keep k
    · rw [if_pos h, if_pos h]
    · rw [if_neg h, if_neg h, zero_div, EReal.coe_zero, mul_zero]
  simp only [hd]
  rw [sum_kept keep e hinj hkeep (fun k => v k * ((Real.exp (s k) / S : ℝ) : EReal)), ← EReal.coe_one, div_coe _ hpos.ne',
    sum_mul_coe _ _ (by positivity)]
  refine Finset.sum_congr rfl fun p _ => ?_
  show v (e p) * _ = ((Real.exp (s (e p)) : ℝ) : EReal) * v (e p) * _
  rw [mul_comm ((Real.exp (s (e p)) : ℝ) : EReal), mul_assoc, ← EReal.coe_mul, mul_one_div]

end

end Cert.RefValue

end
-- ==== Proof.Value.Context.lean ====
/- The reference's contexts, summed over a query's own class of keys. -/
module

public import proofs.«01_k».proof.Proof.Value.Ref
public import proofs.«01_k».proof.Proof.Value.Softmax

@[expose] public section

noncomputable section

namespace Cert.RefValue

open Cert.ReferenceIdeal Cert.ReferenceIdeal.Gen Cert.ReferenceIdeal.Read
open Idealize.ShloMosaic

/-- An array of reals. -/
def AllReal {ι : Type} (x : ι → EReal) : Prop := ∀ i, ∃ r : ℝ, x i = (r : EReal)

/-- Key `p` of class `r`. -/
def classKey (r : Fin 4) (p : Fin 512) : Fin 2048 := ⟨p.val / 64 * 256 + r.val * 64 + p.val % 64, by omega⟩

theorem classKey_injective (r : Fin 4) : Function.Injective (classKey r) := fun a b h => by
  have : a.val / 64 * 256 + r.val * 64 + a.val % 64 = b.val / 64 * 256 + r.val * 64 + b.val % 64 := congrArg Fin.val h
  exact Fin.ext (by omega)

theorem keeps_iff (r : Fin 4) (q k : Fin 2048) (hq : q.val / 64 % 4 = r.val) : Keeps q k ↔ ∃ p, classKey r p = k := by
  refine ⟨fun h => ⟨⟨k.val / 256 * 64 + k.val % 64, by omega⟩, Fin.ext ?_⟩, ?_⟩
  · have h' : k.val / 64 % 4 = r.val := h.trans hq
    show (k.val / 256 * 64 + k.val % 64) / 64 * 256 + r.val * 64 + (k.val / 256 * 64 + k.val % 64) % 64 = k.val
    omega
  · rintro ⟨p, rfl⟩
    show (p.val / 64 * 256 + r.val * 64 + p.val % 64) / 64 % 4 = q.val / 64 % 4
    omega

theorem kv_classKey (x2 : KArr) (b : Fin 4) (r : Fin 4) (p : Fin 512) (h : Fin 32) (d : Fin 128) :
    kv x2 b (classKey r p) h d = x2 (ix6 b ⟨p.val / 64, by omega⟩ r ⟨p.val % 64, by omega⟩ h d) := by
  have e1 : (⟨(classKey r p).val / 256, by omega⟩ : Fin 8) = ⟨p.val / 64, by omega⟩ :=
    Fin.ext (by show (p.val / 64 * 256 + r.val * 64 + p.val % 64) / 256 = p.val / 64; omega)
  have e2 : (⟨(classKey r p).val / 64 % 4, by omega⟩ : Fin 4) = r :=
    Fin.ext (by show (p.val / 64 * 256 + r.val * 64 + p.val % 64) / 64 % 4 = r.val; omega)
  have e3 : (⟨(classKey r p).val % 64, by omega⟩ : Fin 64) = ⟨p.val % 64, by omega⟩ :=
    Fin.ext (by show (p.val / 64 * 256 + r.val * 64 + p.val % 64) % 64 = p.val % 64; omega)
  unfold kv
  rw [e1, e2, e3]

theorem scale_real : ∃ r : ℝ, scale = (r : EReal) := ⟨_, rfl⟩

theorem qv_real (x0 : XArr) (x1 : QArr) (h0 : AllReal x0) (h1 : AllReal x1) (b : Fin 4) (q : Fin 2048) (h : Fin 32) (d : Fin 128) :
    ∃ r : ℝ, qv x0 x1 b q h d = (r : EReal) := by
  choose f0 h0 using h0
  choose f1 h1 using h1
  unfold qv
  simp only [h0, h1, ← EReal.coe_mul]
  exact ⟨_, coe_sum _ _⟩

/-- One score, the scale moved onto the query. -/
def score' (x0 : XArr) (x1 : QArr) (x2 : KArr) (b : Fin 4) (h : Fin 32) (q k : Fin 2048) : EReal :=
  ∑ d : Fin 128, qv x0 x1 b q h d * scale * kv x2 b k h d

theorem score_real (x0 : XArr) (x1 : QArr) (x2 : KArr) (h0 : AllReal x0) (h1 : AllReal x1) (h2 : AllReal x2) (b : Fin 4) (h : Fin 32) (q k : Fin 2048) :
    ∃ r : ℝ, score x0 x1 x2 b h q k = (r : EReal) ∧ score' x0 x1 x2 b h q k = (r : EReal) := by
  choose fq hq using qv_real x0 x1 h0 h1 b q h
  obtain ⟨c, hc⟩ := scale_real
  choose fk hk using h2
  unfold score score' kv
  simp only [hq, hk, hc, ← EReal.coe_mul, coe_sum]
  exact ⟨_, rfl, congrArg _ ((Finset.sum_congr rfl fun d _ => mul_right_comm _ _ _).trans (Finset.sum_mul _ _ _).symm)⟩

/-- The context of a query, over its class. -/
def classContext (x0 : XArr) (x1 : QArr) (x2 x3 : KArr) (b : Fin 4) (q : Fin 2048) (r : Fin 4) (h : Fin 32) (d : Fin 128) : EReal :=
  (∑ p : Fin 512, Ideal.exp (score' x0 x1 x2 b h q (classKey r p)) * kv x3 b (classKey r p) h d)
    * Ideal.div 1 (∑ p : Fin 512, Ideal.exp (score' x0 x1 x2 b h q (classKey r p)))

theorem classContext_congr (x0 : XArr) (x1 : QArr) (x2 x3 : KArr) (r : Fin 4) {b b' : Fin 4} {q q' : Fin 2048} {h h' : Fin 32} {d d' : Fin 128}
    (hb : b.val = b'.val) (hq : q.val = q'.val) (hh : h.val = h'.val) (hd : d.val = d'.val) :
    classContext x0 x1 x2 x3 b q r h d = classContext x0 x1 x2 x3 b' q' r h' d' := by
  rw [Fin.ext hb, Fin.ext hq, Fin.ext hh, Fin.ext hd]

theorem context_eq (x0 : XArr) (x1 : QArr) (x2 x3 : KArr) (h0 : AllReal x0) (h1 : AllReal x1) (h2 : AllReal x2) (b : Fin 4) (q : Fin 2048) (r : Fin 4)
    (hr : q.val / 64 % 4 = r.val) (h : Fin 32) (d : Fin 128) :
    context x0 x1 x2 x3 b q h d = classContext x0 x1 x2 x3 b q r h d := by
  choose s hs hs' using fun k => score_real x0 x1 x2 h0 h1 h2 b h q k
  unfold context classContext weight top masked
  simp only [hs, hs']
  exact attention (Keeps q) s (fun k => kv x3 b k h d) (classKey r) 0 (classKey_injective r) (fun k => keeps_iff r q k hr) _ rfl

end Cert.RefValue

end
-- ==== Proof.Value.Kernel.lean ====
/- The kernel's result block, read at an index: the sum over the four slots of a slot's contexts times its block of the
   output weights. -/
module

public import proofs.«01_k».proof.Proof.KI.Values
public import proofs.«01_k».proof.Proof.Value.Context

@[expose] public section

noncomputable section

namespace Cert.KernelIdealProof

open Cert.KernelIdeal Cert.KernelIdeal.Gen
open Idealize.ShloMosaic Idealize.ShloMosaic.TcCoe Cert.RefValue

variable (m : (ℓ : Loc nD τ sig) → Buf (Elt Ideal) ℓ)

/-! ## The blocks -/

theorem xStg_eq (c : Dev nD) : xStg m c = m ((c : Thread nD τ).loc main_arg0) :=
  funext fun _ => congrArg (m ((c : Thread nD τ).loc main_arg0))
    (Shape.idx_ext₂ ((Nat.zero_add _).trans (Nat.one_mul _)) ((Nat.zero_add _).trans (Nat.one_mul _)))

theorem wStg_false (c : Dev nD) : wStg m false c = m ((c : Thread nD τ).loc main_arg1) :=
  funext fun _ => congrArg (m ((c : Thread nD τ).loc main_arg1))
    (Shape.idx_ext₂ ((Nat.zero_add _).trans (Nat.one_mul _)) ((Nat.zero_add _).trans (Nat.one_mul _)))

theorem wStg_true (c : Dev nD) : wStg m true c = m ((c : Thread nD τ).loc main_arg4) :=
  funext fun _ => congrArg (m ((c : Thread nD τ).loc main_arg4))
    (Shape.idx_ext₂ ((Nat.zero_add _).trans (Nat.one_mul _)) ((Nat.zero_add _).trans (Nat.one_mul _)))

set_option maxRecDepth 16384 in
theorem wAt_at (b : Bool) (c : Dev nD) (s : Fin 4) (t j : Fin 1024) : wAt m b c s (ix3 0 t j) = wStg m b (rot c s) (ix2 t j) := by
  pointwise [wAt, wBlk]

theorem koff_eq : ∀ (c : Dev nD) (s r : Fin 4) (a : Fin 6), koff c s r a = (![c.val, 0, r.val, 0, 8 * (rot c s).val, 0] : Fin 6 → Nat) a := by
  decide +kernel

theorem hR_val (c : Dev nD) (s r : Fin 4) (x : S1x8x1x64x8x128.Idx) (a : Fin 6) :
    ((hR c s r).emb x a).val = (![c.val, 0, r.val, 0, 8 * (rot c s).val, 0] : Fin 6 → Nat) a + (x a).val :=
  (ValueKit.rect_emb_unit_val (s := S4x8x4x64x32x128) _ _ (koff_inb c s r) x a).trans (congrArg (· + (x a).val) (koff_eq c s r a))

/-- The head of the whole model that head `h` of slot `s` is on device `c`. -/
def headIx (c : Dev nD) (s : Fin 4) (h : Fin 8) : Fin 32 := ⟨8 * (rot c s).val + h.val, by have : (rot c s).val < 4 := (rot c s).isLt; omega⟩

set_option maxRecDepth 16384 in
theorem kvAt_at (b : Bool) (c : Dev nD) (s r : Fin 4) (i : Fin 8) (t : Fin 64) (h : Fin 8) (d : Fin 128) :
    kvAt m b c s r (ix4 i t h d) = hX m b c (ix6 c i r t (headIx c s h) d) := by
  pointwise [kvAt, kbOf, kvVal, Shape.reshapeEquiv_symm]
  refine congrArg _ (funext fun a => Fin.ext ((hR_val c s r _ a).trans ?_))
  match a with
  | ⟨0, _⟩ => exact Nat.add_zero _
  | ⟨1, _⟩ => exact Nat.zero_add _
  | ⟨2, _⟩ => exact Nat.add_zero _
  | ⟨3, _⟩ => exact Nat.zero_add _
  | ⟨4, _⟩ => rfl
  | ⟨5, _⟩ => exact Nat.zero_add _

/-! ## The contexts -/

/-- The kernel's named constant is the scale. -/
theorem named_scale : Named.named (F := Ideal) κ "scale" (φ := .f32) 0x3DB504F3#32 = scale :=
  IdealRules.named_const.ideal_named_scalar _ _ _ _ rfl

set_option maxRecDepth 16384 in
theorem qrOf_at (x : Vec Ideal S2048x1024 .bf16) (w : Vec Ideal S1x1024x1024 .bf16) (r : Fin 4) (p : Fin 512) (j : Fin 1024) :
    qrOf (F := Ideal) r (qgOf x w) (ix2 p j) = (∑ t : Fin 1024, x (ix2 (classKey r p) t) * w (ix3 0 t j)) * scale := by
  pointwise [qrOf, qgOf]
  rw [named_scale]
  rfl

set_option maxRecDepth 16384 in
theorem headOf_at (q : FVec Ideal S512x1024 .bf16) (k v : FVec Ideal S8x64x8x128 .bf16) (h : Fin 8) (p : Fin 512) (d : Fin 128) :
    headOf (F := Ideal) h q k v (ix2 p d)
      = (∑ x : Fin 512, Ideal.exp (∑ y : Fin 128, q (ix2 p ⟨128 * h.val + y.val, by omega⟩) * k (ix4 ⟨x.val / 64, by omega⟩ ⟨x.val % 64, by omega⟩ h y))
            * v (ix4 ⟨x.val / 64, by omega⟩ ⟨x.val % 64, by omega⟩ h d))
          * Ideal.div 1 (∑ x : Fin 512, Ideal.exp (∑ y : Fin 128, q (ix2 p ⟨128 * h.val + y.val, by omega⟩) * k (ix4 ⟨x.val / 64, by omega⟩ ⟨x.val % 64, by omega⟩ h y))) := by
  pointwise [headOf, expOf, khOf]

set_option maxRecDepth 16384 in
theorem accOf_at (q : FVec Ideal S512x1024 .bf16) (w : Vec Ideal S1x1024x1024 .bf16) (o : Vec Ideal S8x1x64x1024 .f32) (i : Fin 8) (t : Fin 64) (e : Fin 1024) :
    accOf (F := Ideal) q w o (ix4 i 0 t e) = o (ix4 i 0 t e) + ∑ j : Fin 1024, q (ix2 ⟨i.val * 64 + t.val, by omega⟩ j) * w (ix3 0 j e) := by
  pointwise [accOf]

/-- The devices' arrays are the blocks of whole arrays. -/
structure Blocks (x0 : XArr) (x1 : QArr) (x2 x3 : KArr) (x4 : OArr) : Prop where
  x : ∀ (c : Dev nD) (q : Fin 2048) (t : Fin 1024), xStg m c (ix2 q t) = x0 (ix2 ⟨c.val * 2048 + q.val, by have : c.val < 4 := c.isLt; omega⟩ t)
  q : ∀ (c : Dev nD) (t j : Fin 1024), wStg m false c (ix2 t j) = x1 (ix2 t ⟨c.val * 1024 + j.val, by have : c.val < 4 := c.isLt; omega⟩)
  k : ∀ c : Dev nD, hX m false c = x2
  v : ∀ c : Dev nD, hX m true c = x3
  o : ∀ (c : Dev nD) (j e : Fin 1024), wStg m true c (ix2 j e) = x4 (ix2 ⟨c.val * 1024 + j.val, by have : c.val < 4 := c.isLt; omega⟩ e)

variable {m} {x0 : XArr} {x1 : QArr} {x2 x3 : KArr} {x4 : OArr} (hB : Blocks m x0 x1 x2 x3 x4)
include hB

theorem query_at (c : Dev nD) (s r : Fin 4) (p : Fin 512) (h : Fin 8) (d : Fin 128) :
    qrOf r (qgAt m c s) (ix2 p ⟨128 * h.val + d.val, by omega⟩) = qv x0 x1 c (classKey r p) (headIx c s h) d * scale := by
  unfold qgAt qv
  rw [qrOf_at]
  refine congrArg (· * scale) (Finset.sum_congr rfl fun t _ => ?_)
  rw [wAt_at, hB.x, hB.q]
  refine congrArg (fun j => _ * x1 (ix2 t j)) (Fin.ext ?_)
  show (rot c s).val * 1024 + (128 * h.val + d.val) = (8 * (rot c s).val + h.val) * 128 + d.val
  omega

theorem key_at (c : Dev nD) (s r : Fin 4) (x : Fin 512) (h : Fin 8) (d : Fin 128) :
    kvAt m false c s r (ix4 ⟨x.val / 64, by omega⟩ ⟨x.val % 64, by omega⟩ h d) = kv x2 c (classKey r x) (headIx c s h) d := by
  rw [kvAt_at, hB.k, kv_classKey]

theorem value_at (c : Dev nD) (s r : Fin 4) (x : Fin 512) (h : Fin 8) (d : Fin 128) :
    kvAt m true c s r (ix4 ⟨x.val / 64, by omega⟩ ⟨x.val % 64, by omega⟩ h d) = kv x3 c (classKey r x) (headIx c s h) d := by
  rw [kvAt_at, hB.v, kv_classKey]

theorem head_at (c : Dev nD) (s r : Fin 4) (p : Fin 512) (h : Fin 8) (d : Fin 128) :
    headOf h (qrOf r (qgAt m c s)) (kvAt m false c s r) (kvAt m true c s r) (ix2 p d)
      = classContext x0 x1 x2 x3 c (classKey r p) r (headIx c s h) d := by
  rw [headOf_at]
  simp only [query_at hB, key_at hB, value_at hB]
  rfl

/-- The kernel's contexts are the reference's. -/
theorem ctxAt_at (c : Dev nD) (s r : Fin 4) (p : Fin 512) (j : Fin 1024) :
    ctxAt m c s r (ix2 p j)
      = classContext x0 x1 x2 x3 c (classKey r p) r (headIx c s ⟨j.val / 128, by omega⟩) ⟨j.val % 128, by omega⟩ :=
  head_at hB c s r p ⟨j.val / 128, by omega⟩ ⟨j.val % 128, by omega⟩

/-! ## The result -/

/-- What slot `s` adds to an entry of the result. -/
def share (x0 : XArr) (x1 : QArr) (x2 x3 : KArr) (x4 : OArr) (c : Fin 4) (q : Fin 2048) (r : Fin 4) (e : Fin 1024) (D : Fin 4) : EReal :=
  ∑ j : Fin 1024, classContext x0 x1 x2 x3 c q r ⟨8 * D.val + j.val / 128, by omega⟩ ⟨j.val % 128, by omega⟩ * x4 (ix2 ⟨D.val * 1024 + j.val, by omega⟩ e)

theorem outStep_same (c : Dev nD) (s : Fin 4) (o : Vec Ideal S8x4x64x1024 .f32) (r : Fin 4) (i : Fin 8) (t : Fin 64) (e : Fin 1024) :
    outStep m c s o r (ix4 i r t e)
      = o (ix4 i r t e) + share x0 x1 x2 x3 x4 c (classKey r ⟨i.val * 64 + t.val, by omega⟩) r e (rot c s) := by
  have hi : (oR r).emb (ix4 i 0 t e : S8x1x64x1024.Idx) = (ix4 i r t e : S8x4x64x1024.Idx) := funext fun a => Fin.ext <|
    (ValueKit.rect_emb_unit_val (s := S8x4x64x1024) _ _ (inb_o r) _ a).trans (match a with
      | ⟨0, _⟩ => Nat.zero_add _
      | ⟨1, _⟩ => Nat.add_zero _
      | ⟨2, _⟩ => Nat.zero_add _
      | ⟨3, _⟩ => Nat.zero_add _)
  unfold outStep
  rw [← hi]
  refine (Rect.overlay_emb (oR r) o _ _).trans ((accOf_at _ _ _ i t e).trans (congrArg (o ((oR r).emb (ix4 i 0 t e)) + ·) (Finset.sum_congr rfl fun j _ => ?_)))
  rw [ctxAt_at hB, wAt_at, hB.o]
  rfl

omit hB in
theorem outStep_other (c : Dev nD) (s : Fin 4) (o : Vec Ideal S8x4x64x1024 .f32) {r r' : Fin 4} (h : r' ≠ r) (i : Fin 8) (t : Fin 64) (e : Fin 1024) :
    outStep m c s o r (ix4 i r' t e) = o (ix4 i r' t e) := by
  refine Rect.overlay_of_not_mem _ _ _ fun hm => h ?_
  have h1 := (Rect.mem_set_unit.mp hm) 1
  exact Fin.ext (Nat.le_antisymm (Nat.lt_succ_iff.mp h1.2) h1.1)

theorem outSlot_at (c : Dev nD) (s : Fin 4) (o : Vec Ideal S8x4x64x1024 .f32) (r : Fin 4) (i : Fin 8) (t : Fin 64) (e : Fin 1024) :
    outSlot m c o s (ix4 i r t e)
      = o (ix4 i r t e) + share x0 x1 x2 x3 x4 c (classKey r ⟨i.val * 64 + t.val, by omega⟩) r e (rot c s) := by
  unfold outSlot
  have hs := outStep_same hB c s
  have ho := fun o {r r'} h => outStep_other (m := m) c s o (r := r) (r' := r') h
  match r with
  | 0 => rw [ho _ (by decide), ho _ (by decide), ho _ (by decide), hs]
  | 1 => rw [ho _ (by decide), ho _ (by decide), hs, ho _ (by decide)]
  | 2 => rw [ho _ (by decide), hs, ho _ (by decide), ho _ (by decide)]
  | 3 => rw [hs, ho _ (by decide), ho _ (by decide), ho _ (by decide)]

omit hB in
theorem rot_bijective (c : Dev nD) : Function.Bijective (rot c : Fin 4 → Fin 4) := by
  revert c
  decide

theorem outAt_at (c : Dev nD) (r : Fin 4) (i : Fin 8) (t : Fin 64) (e : Fin 1024) :
    outAt m c (ix4 i r t e) = ∑ D : Fin 4, share x0 x1 x2 x3 x4 c (classKey r ⟨i.val * 64 + t.val, by omega⟩) r e D := by
  unfold outAt
  rw [outSlot_at hB, outSlot_at hB, outSlot_at hB, outSlot_at hB, show (outZero (F := Ideal)) (ix4 i r t e) = 0 from Ideal.ofBits_zero_f32, zero_add,
    ← (rot_bijective c).sum_comp (fun D => share x0 x1 x2 x3 x4 c (classKey r ⟨i.val * 64 + t.val, by omega⟩) r e D), Fin.sum_univ_four]
  ac_rfl

omit hB in
/-- A sum over the 4096 rows of the output weights, block by block. -/
theorem sum_blocks (f : Fin 4096 → EReal) : ∑ j : Fin 4096, f j = ∑ D : Fin 4, ∑ j : Fin 1024, f ⟨D.val * 1024 + j.val, by omega⟩ := by
  rw [← Fintype.sum_prod_type' (f := fun (D : Fin 4) (j : Fin 1024) => f ⟨D.val * 1024 + j.val, by omega⟩)]
  refine (Fintype.sum_equiv (finProdFinEquiv (m := 4) (n := 1024)) _ _ fun x => congrArg f (Fin.ext ?_)).symm
  show x.1.val * 1024 + x.2.val = x.2.val + 1024 * x.1.val
  omega

/-- The kernel's result block on device `c` is block `c` of the reference's result. -/
theorem outAt_eq (h0 : AllReal x0) (h1 : AllReal x1) (h2 : AllReal x2) (c : Dev nD) (r : Fin 4) (i : Fin 8) (t : Fin 64) (e : Fin 1024) :
    outAt m c (ix4 i r t e) = Cert.ReferenceIdeal.Read.val_main_v47 (F := Ideal) x0 x1 x2 x3 x4 (ix4 ⟨c.val * 8 + i.val, by have : c.val < 4 := c.isLt; omega⟩ r t e) := by
  have hc : c.val < 4 := c.isLt
  rw [outAt_at hB, v47_at, sum_blocks]
  refine Finset.sum_congr rfl fun D _ => Finset.sum_congr rfl fun j _ => congrArg (· * _) ?_
  rw [context_eq x0 x1 x2 x3 h0 h1 h2 _ _ r (by show ((c.val * 8 + i.val) % 8 * 256 + r.val * 64 + t.val) / 64 % 4 = r.val; omega)]
  refine classContext_congr _ _ _ _ _ ?_ ?_ ?_ ?_
  · show c.val = (c.val * 8 + i.val) / 8
    omega
  · show (i.val * 64 + t.val) / 64 * 256 + r.val * 64 + (i.val * 64 + t.val) % 64 = (c.val * 8 + i.val) % 8 * 256 + r.val * 64 + t.val
    omega
  · show 8 * D.val + j.val / 128 = (D.val * 1024 + j.val) / 128
    omega
  · show j.val % 128 = (D.val * 1024 + j.val) % 128
    omega

end Cert.KernelIdealProof

end
-- ==== Proof.Value.Finite.lean ====
/- The precondition: the queries' and keys' inputs hold no infinity. -/
module

public import proofs.«01_k».proof.Pre_finite_KernelIdeal
public import proofs.«01_k».proof.Pre_finite_ReferenceIdeal
public import proofs.«01_k».proof.Proof.Value.Context

@[expose] public section

noncomputable section

namespace Cert.RefValue

open Idealize.ShloMosaic

instance preKernel : Cert.Pre_finite_KernelIdeal.Facts := by
  refine ⟨?_, ?_, ?_, ?_, ?_, ?_, ?_, ?_⟩ <;> decide

instance preReference : Cert.Pre_finite_ReferenceIdeal.Facts := by
  refine ⟨?_, ?_, ?_, ?_, ?_, ?_, ?_, ?_⟩ <;> decide

theorem andi_eq_one {a b : BitVec 1} (h : IntOp.andi a b = 1#1) : a = 1#1 ∧ b = 1#1 := by
  revert a b
  decide

/-- A conjunction of bits that holds, holds of each. -/
theorem fold_andi {ι : Type} (s : Finset ι) (p : ι → BitVec 1) (h : Finset.fold IntOp.andi (1#1) p s = 1#1) : ∀ i ∈ s, p i = 1#1 := by
  classical
  induction s using Finset.induction_on with
  | empty => exact fun _ hi => absurd hi (Finset.notMem_empty _)
  | insert a s ha ih =>
    rw [Finset.fold_insert ha] at h
    intro i hi
    rcases Finset.mem_insert.mp hi with rfl | hi
    · exact (andi_eq_one h).1
    · exact ih (andi_eq_one h).2 i hi

theorem ofBits_inf : Ideal.ofBits .f32 0x7F800000#32 = ⊤ := by
  simp [Ideal.ofBits, Ideal.ieee]

/-- What is below infinity in magnitude is real. -/
theorem real_of_abs (x : EReal) (h : BitVec.ofBool (decide (max x (-x) < Ideal.ofBits .f32 0x7F800000#32)) = 1#1) : ∃ r : ℝ, x = (r : EReal) := by
  rw [ofBits_inf] at h
  by_cases hx : max x (-x) < ⊤
  · induction x with
    | bot => exact absurd (lt_of_le_of_lt (le_max_right _ _) hx) (lt_irrefl _)
    | coe r => exact ⟨r, rfl⟩
    | top => exact absurd (lt_of_le_of_lt (le_max_left _ _) hx) (lt_irrefl _)
  · rw [decide_eq_false hx] at h
    exact absurd h (by decide)

set_option maxRecDepth 16384 in
theorem real_of_finite (x : FVec Ideal Cert.Pre_finite_KernelIdeal.S2048x1024 .bf16) (w : FVec Ideal Cert.Pre_finite_KernelIdeal.S1024x1024 .bf16)
    (k v : FVec Ideal Cert.Pre_finite_KernelIdeal.S4x8x4x64x32x128 .f32) (o : FVec Ideal Cert.Pre_finite_KernelIdeal.S1024x1024 .bf16)
    (h : Cert.Pre_finite_KernelIdeal.fn (F := Ideal) x w k v o = fun _ => 1#1) : AllReal x ∧ AllReal w ∧ AllReal k := by
  have h' := congrFun h ix0
  pointwise [Cert.Pre_finite_KernelIdeal.fn] at h'
  obtain ⟨h', hk⟩ := andi_eq_one h'
  obtain ⟨hx, hw⟩ := andi_eq_one h'
  have hx := fun p => fold_andi _ _ hx p (@Finset.mem_univ _ _ p)
  have hw := fun p => fold_andi _ _ hw p (@Finset.mem_univ _ _ p)
  refine ⟨fun i => ?_, fun i => ?_, fun i => ?_⟩
  · rw [eq_ix2 i]
    exact real_of_abs _ (hx (i 0, i 1))
  · rw [eq_ix2 i]
    exact real_of_abs _ (hw (i 0, i 1))
  · refine real_of_abs _ (fold_andi _ _ hk i ?_)
    rw [Finset.mem_filter]
    exact ⟨Finset.mem_univ _, funext fun a => a.elim0⟩

end Cert.RefValue

end
-- ==== Proof.Value.Claim.lean ====
/- The kernel's result on every device, out of the whole arrays that the devices' arrays are blocks of. -/
module

public import proofs.«01_k».proof.Proof.Value.Kernel
public import proofs.«01_k».proof.Proof.Value.Finite
public import Idealize.ShloMosaic.Lib.Layout

@[expose] public section

set_option backward.proofsInPublic true

noncomputable section

namespace Cert.KernelIdealProof

open Cert.KernelIdeal Cert.KernelIdeal.Gen
open Idealize.ShloMosaic Idealize.ShloMosaic.TcCoe Cert.RefValue

variable {m : (ℓ : Loc nD τ sig) → Buf (Elt Ideal) ℓ} {x0 : XArr} {x1 : QArr} {x2 x3 : KArr} {x4 : OArr}

variable (hargs : ∀ c : Dev nD,
  m ((c : Thread nD τ).loc main_arg0) = Layout.block ⟨2, ![2048, 1024]⟩ ⟨2, ![8192, 1024]⟩ 0 4 c x0
  ∧ m ((c : Thread nD τ).loc main_arg1) = Layout.block ⟨2, ![1024, 1024]⟩ ⟨2, ![1024, 4096]⟩ 1 4 c x1
  ∧ m ((c : Thread nD τ).loc main_arg2) = x2
  ∧ m ((c : Thread nD τ).loc main_arg3) = x3
  ∧ m ((c : Thread nD τ).loc main_arg4) = Layout.block ⟨2, ![1024, 1024]⟩ ⟨2, ![4096, 1024]⟩ 0 4 c x4)
include hargs

theorem blocks_of_args : Blocks m x0 x1 x2 x3 x4 where
  x c q t := by
    rw [xStg_eq, (hargs c).1]
    exact congrArg x0 (Shape.idx_ext₂ rfl rfl)
  q c t j := by
    rw [wStg_false, (hargs c).2.1]
    exact congrArg x1 (Shape.idx_ext₂ rfl rfl)
  k c := (hargs c).2.2.1
  v c := (hargs c).2.2.2.1
  o c j e := by
    rw [wStg_true, (hargs c).2.2.2.2]
    exact congrArg x4 (Shape.idx_ext₂ rfl rfl)

variable (hfin : ∀ c : Dev nD, Cert.Pre_finite_KernelIdeal.fn (F := Ideal) (m ((c : Thread nD τ).loc main_arg0)) (m ((c : Thread nD τ).loc main_arg1))
  (m ((c : Thread nD τ).loc main_arg2)) (m ((c : Thread nD τ).loc main_arg3)) (m ((c : Thread nD τ).loc main_arg4)) = fun _ => 1#1)
include hfin

theorem real_args : AllReal x0 ∧ AllReal x1 ∧ AllReal x2 := by
  have hf := fun c => real_of_finite _ _ _ _ _ (hfin c)
  have hB := blocks_of_args hargs
  refine ⟨fun i => ?_, fun i => ?_, ?_⟩
  · have hi : (i 0).val < 8192 := (i 0).isLt
    let c : Dev nD := (⟨(i 0).val / 2048, by omega⟩ : Fin 4)
    let q : Fin 2048 := ⟨(i 0).val % 2048, Nat.mod_lt _ (by decide)⟩
    obtain ⟨r, hr⟩ := (hf c).1 (ix2 q (i 1))
    have e : x0 i = xStg m c (ix2 q (i 1)) := by
      refine Eq.trans (congrArg x0 ?_) (hB.x c q (i 1)).symm
      exact Shape.idx_ext₂ (Nat.div_add_mod' _ _).symm rfl
    exact ⟨r, e.trans ((congrFun (xStg_eq m c) _).trans hr)⟩
  · have hi : (i 1).val < 4096 := (i 1).isLt
    let c : Dev nD := (⟨(i 1).val / 1024, by omega⟩ : Fin 4)
    let j : Fin 1024 := ⟨(i 1).val % 1024, Nat.mod_lt _ (by decide)⟩
    obtain ⟨r, hr⟩ := (hf c).2.1 (ix2 (i 0) j)
    have e : x1 i = wStg m false c (ix2 (i 0) j) := by
      refine Eq.trans (congrArg x1 ?_) (hB.q c (i 0) j).symm
      exact Shape.idx_ext₂ rfl (Nat.div_add_mod' _ _).symm
    exact ⟨r, e.trans ((congrFun (wStg_false m c) _).trans hr)⟩
  · have h := (hf (0 : Fin 4)).2.2
    rwa [(hargs (0 : Fin 4)).2.2.1] at h

/-- Device `c`'s result is block `c` of the reference's. -/
theorem outAt_block (c : Dev nD) :
    outAt m c = Layout.block ⟨4, ![8, 4, 64, 1024]⟩ ⟨4, ![32, 4, 64, 1024]⟩ 0 4 c (Cert.ReferenceIdeal.Read.val_main_v47 (F := Ideal) x0 x1 x2 x3 x4) := by
  obtain ⟨h0, h1, h2⟩ := real_args hargs hfin
  funext i
  rw [eq_ix4 i]
  refine (outAt_eq (blocks_of_args hargs) h0 h1 h2 c (i 1) (i 0) (i 2) (i 3)).trans ?_
  refine congrArg (Cert.ReferenceIdeal.Read.val_main_v47 (F := Ideal) x0 x1 x2 x3 x4) (funext fun a => Fin.ext ?_)
  match a with
  | ⟨0, _⟩ => rfl
  | ⟨1, _⟩ => rfl
  | ⟨2, _⟩ => rfl
  | ⟨3, _⟩ => rfl

end Cert.KernelIdealProof

end
-- ==== Proof.lean ====
/- The claims: each program's frame out of its run, and the kernel's result as the blocks of the reference's. -/
module

public import proofs.«01_k».proof.Defs
public import proofs.«01_k».proof.Proof.KI.Run
public import proofs.«01_k».proof.Proof.K.Run
public import proofs.«01_k».proof.Proof.Value.Claim
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.ShloMosaic.TcCoe Idealize.SL.Sem

theorem frame_Kernel : quiescent_Kernel := fun m g _ =>
  (θ_run _ _ _).mono (fun _ h => ⟨fun c => (h.1 c).2, h.2⟩) (KernelProof.run_main m g)
theorem frame_KernelIdeal : quiescent_KernelIdeal := fun m g _ =>
  (θ_run _ _ _).mono (fun _ h => ⟨fun c => (h.1 c).2, h.2⟩) (KernelIdealProof.run_main m g)
theorem frame_ReferenceIdeal : quiescent_ReferenceIdeal := fun m g _ =>
  (θ_run _ _ _).mono (fun r h => ⟨fun c => (h c).2, sem_eq_zero_of_no_sems rfl r.2⟩) (ReferenceIdeal.Value.run m g)

theorem frame_KernelIdeal_finite : quiescent_KernelIdeal_pre_finite_KernelIdeal := fun m g _ => frame_KernelIdeal m g trivial
theorem frame_ReferenceIdeal_finite : quiescent_ReferenceIdeal_pre_finite_ReferenceIdeal := fun m g _ => frame_ReferenceIdeal m g trivial

/-- The idealized kernel's one named constant is 1/√128. -/
theorem preserved : preserves_Kernel_KernelIdeal :=
  IdealRules.named_const.statement KernelIdeal.κ "scale" .f32 0x3DB504F3#32 (((Real.sqrt 128)⁻¹ : ℝ) : EReal) rfl

theorem value : algebraic_KernelIdeal_ReferenceIdeal_pre_finite_KernelIdeal := fun m g m' g' hfin hargs =>
  ⟨ReferenceIdeal.Value.res_main_v47 m' 0,
    (θ_run _ _ _).mono (fun _ h c => ⟨(h.1 c).1.trans ((KernelIdealProof.outAt_block hargs hfin c).trans
      (congrArg (fun v => Layout.block ⟨4, ![8, 4, 64, 1024]⟩ ⟨4, ![32, 4, 64, 1024]⟩ 0 4 c v) (ReferenceIdeal.Read.val_main_v47_eq m' 0).symm)), (h.1 c).2⟩) (KernelIdealProof.run_main m g),
    (θ_run _ _ _).mono (fun _ h => h 0) (ReferenceIdeal.Value.run m' g')⟩

theorem claim : Cert.Claim :=
  ⟨Kernel.Gen.facts, KernelIdeal.Gen.facts, ReferenceIdeal.Gen.facts, RefValue.preKernel, RefValue.preReference, frame_Kernel, frame_KernelIdeal,
    frame_KernelIdeal_finite, frame_ReferenceIdeal, frame_ReferenceIdeal_finite, preserved, value⟩

end Cert.Proof

end
